-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 2048, 512]⟩ ⟨3, ![4, 2048, 512]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x512 : Shape := ⟨3, ![1, 2048, 512]⟩
abbrev S512 : Shape := ⟨1, ![512]⟩
abbrev S512x512 : Shape := ⟨2, ![512, 512]⟩
abbrev S2x512x256 : Shape := ⟨3, ![2, 512, 256]⟩
abbrev S512x256 : Shape := ⟨2, ![512, 256]⟩
abbrev S6 : Shape := ⟨1, ![6]⟩
abbrev S_ : Shape := ⟨0, ![]⟩
abbrev S1x512x256 : Shape := ⟨3, ![1, 512, 256]⟩
abbrev S1 : Shape := ⟨1, ![1]⟩
abbrev S512x1 : Shape := ⟨2, ![512, 1]⟩
abbrev S256 : Shape := ⟨1, ![256]⟩
abbrev S1x256 : Shape := ⟨2, ![1, 256]⟩

abbrev nBuf : Space → Nat
  | .hbm => 3
  | .vmem => 15
  | .smem => 0
  | _ => 0

abbrev bufTy : (tb : Table) → Fin (tcTables nBuf tb) → BufTy
  | .hbm, ⟨0, _⟩ => ⟨S1x2048x512, .bf16⟩
  | .hbm, ⟨1, _⟩ => ⟨S512, .bf16⟩
  | .hbm, ⟨2, _⟩ => ⟨S512x512, .f32⟩
  | .local _ .vmem, ⟨0, _⟩ => ⟨S1x2048x512, .bf16⟩
  | .local _ .vmem, ⟨1, _⟩ => ⟨S512, .bf16⟩
  | .local _ .vmem, ⟨2, _⟩ => ⟨S512x512, .f32⟩
  | .local _ .vmem, ⟨3, _⟩ => ⟨S2x512x256, .bf16⟩
  | .local _ .vmem, ⟨4, _⟩ => ⟨S2x512x256, .bf16⟩
  | .local _ .vmem, ⟨5, _⟩ => ⟨S2x512x256, .bf16⟩
  | .local _ .vmem, ⟨6, _⟩ => ⟨S2x512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .f32⟩
  | .local _ .vmem, ⟨14, _⟩ => ⟨S512x256, .f32⟩
  | _, _ => ⟨S1x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_4 : BitVec 32 := 1#32
  let v9 : BitVec 32 := Scalar.muli v3 c1_i32_4
  let v10 : BitVec 32 := Scalar.addi c0_i32 v9
  v10.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_6 : BitVec 32 := 1#32
  let v11 : BitVec 32 := Scalar.muli v4 c1_i32_6
  let v12 : BitVec 32 := Scalar.addi c0_i32_7 v11
  v12.toNat
def k0_off1 (d0 : Dev nD) (c2_i32 : BitVec 32) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.xori v2 c2_i32
  let c512_i32 : BitVec 32 := 512#32
  let v13 : BitVec 32 := Scalar.muli v6 c512_i32
  let v14 : Index := Scalar.indexCast v13
  let c0_8 : Index := 0#32
  ![0, v14.toNat, 0]
def k0_off2 (d0 : Dev nD) (c2_i32 : BitVec 32) : Fin 3 → Nat :=
  let c0_13 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.xori v2 c2_i32
  let c512_i32_12 : BitVec 32 := 512#32
  let v20 : BitVec 32 := Scalar.muli v6 c512_i32_12
  let v21 : Index := Scalar.indexCast v20
  let c256 : Index := 256#32
  ![0, v21.toNat, 256]
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_22 : BitVec 32 := 1#32
  let v27 : BitVec 32 := Scalar.muli v3 c1_i32_22
  let v28 : BitVec 32 := Scalar.addi c0_i32_23 v27
  v28.toNat
def k0_dev4 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_32 : BitVec 32 := 1#32
  let v37 : BitVec 32 := Scalar.muli v4 c1_i32_32
  let v38 : BitVec 32 := Scalar.addi c0_i32_33 v37
  v38.toNat
def k0_dev5 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_53 : BitVec 32 := 1#32
  let v61 : BitVec 32 := Scalar.muli v3 c1_i32_53
  let v62 : BitVec 32 := Scalar.addi c0_i32_54 v61
  v62.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_63 : BitVec 32 := 1#32
  let v71 : BitVec 32 := Scalar.muli v4 c1_i32_63
  let v72 : BitVec 32 := Scalar.addi c0_i32_64 v71
  v72.toNat
def k0_dev7 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v4 : BitVec 32 := Scalar.xori v2 c3_i32
  let c1_i32_98 : BitVec 32 := 1#32
  let v110 : BitVec 32 := Scalar.muli v4 c1_i32_98
  let v111 : BitVec 32 := Scalar.addi c0_i32_99 v110
  v111.toNat
def k0_dev8 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_118 : BitVec 32 := 1#32
  let v131 : BitVec 32 := Scalar.muli v3 c1_i32_118
  let v132 : BitVec 32 := Scalar.addi c0_i32_119 v131
  v132.toNat
def k0_off3 (d0 : Dev nD) : Fin 3 → Nat :=
  let c0_131 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_130 : BitVec 32 := 512#32
  let v145 : BitVec 32 := Scalar.muli v2 c512_i32_130
  let v146 : Index := Scalar.indexCast v145
  let c0_132 : Index := 0#32
  ![0, v146.toNat, 0]
def k0_off4 (d0 : Dev nD) : Fin 3 → Nat :=
  let c0_149 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_148 : BitVec 32 := 512#32
  let v165 : BitVec 32 := Scalar.muli v2 c512_i32_148
  let v166 : Index := Scalar.indexCast v165
  let c256_150 : Index := 256#32
  ![0, v166.toNat, 256]
abbrev stage0_0 : Fin 1 → Memref sig .tc .vmem S1x2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x2048x512 : Shape := ⟨3, ![4, 2048, 512]⟩
abbrev S512 : Shape := ⟨1, ![512]⟩
abbrev S_ : Shape := ⟨0, ![]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x512, .bf16⟩
  | .hbm, ⟨1, _⟩ => ⟨S512, .bf16⟩
  | .hbm, ⟨2, _⟩ => ⟨S4x2048x512, .f32⟩
  | .hbm, ⟨3, _⟩ => ⟨S512, .f32⟩
  | .hbm, ⟨4, _⟩ => ⟨S_, .f32⟩
  | .hbm, ⟨5, _⟩ => ⟨S2048x512, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x512, .f32⟩
  | .hbm, ⟨18, _⟩ => ⟨S2048x512, .f32⟩
  | .hbm, ⟨19, _⟩ => ⟨S1x512, .f32⟩
  | .hbm, ⟨20, _⟩ => ⟨S2048x512, .f32⟩
  | .hbm, ⟨21, _⟩ => ⟨S2048x512, .f32⟩
  | _, _ => ⟨S4x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Values.lean ====
/-
# What the devices send and what they compute from it

The program runs on four devices. Each holds a partial sum of 2048 rows and 512 columns; device `c` is to end
with rows `512 c … 512 c + 511` of the sum of the four, normalised row by row. The left 256 columns and the right
256 columns are reduced apart, each in two exchanges with a partner. This module names the partners, the buffers of
the six transfers, and what travels in each, over the contents `x` of the devices' staged argument.
-/
module

public import proofs.«01_k».proof.Proof.Gen.KernelIdeal
public import proofs.«01_k».proof.Proof.Gen.KernelIdeal.Skeleton

@[expose] public section

noncomputable section

namespace Cert.ScatterProof

open Cert.KernelIdeal Cert.KernelIdeal.Gen
open Idealize.ShloMosaic

variable {F : FTy → Type} [FloatOps F]

/-! ## The partners -/

/-- The partner whose number differs in the last bit. -/
def q1 (c : Dev nD) : Dev nD := ![1, 0, 3, 2] c
/-- The partner whose number differs in the first bit. -/
def q2 (c : Dev nD) : Dev nD := ![2, 3, 0, 1] c
/-- The partner whose number differs in both bits. -/
def q3 (c : Dev nD) : Dev nD := ![3, 2, 1, 0] c

theorem q1_q1 (c : Dev nD) : q1 (q1 c) = c := by revert c; decide
theorem q3_q3 (c : Dev nD) : q3 (q3 c) = c := by revert c; decide

/-- Where transfer `k` of device `c` goes. -/
def tgt (k : Fin 6) (c : Dev nD) : Dev nD := match k with
  | 0 => q1 c | 1 => q3 c | 2 => q1 c | 3 => q3 c | 4 => q3 c | 5 => q1 c

/-- Every transfer is an exchange: the target's transfer of the same number comes back. -/
theorem tgt_tgt (k : Fin 6) (c : Dev nD) : tgt k (tgt k c) = c := by revert c k; decide

/-! ## The buffers -/

/-- The staged argument, the staged scale and the staged result. -/
abbrev xM : Memref sig .tc .vmem S1x2048x512 .bf16 := Memref.whole cc0_stg0_0
abbrev gM : Memref sig .tc .vmem S512 .bf16 := Memref.whole cc0_stg1_0
abbrev oM : Memref sig .tc .vmem S512x512 .f32 := Memref.whole cc0_stg2_0

/-- The first and the second half of a buffer of two blocks, as the program cuts them. -/
abbrev slot0 (M : Memref sig .tc .vmem S2x512x256 .bf16) : Memref sig .tc .vmem S512x256 .bf16 :=
  (M.slice (Rect.unit (s := S2x512x256) ![0, 0, 0] S1x512x256.size inb_S2x512x256_S1x512x256_0_0_0) (fun _ => rfl)).squeeze
    S512x256 squeezes_S1x512x256_S512x256
abbrev slot1 (M : Memref sig .tc .vmem S2x512x256 .bf16) : Memref sig .tc .vmem S512x256 .bf16 :=
  (M.slice (Rect.unit (s := S2x512x256) ![1, 0, 0] S1x512x256.size inb_S2x512x256_S1x512x256_1_0_0) (fun _ => rfl)).squeeze
    S512x256 squeezes_S1x512x256_S512x256

/-- What transfer `k` reads, on the device that sends. -/
abbrev srcM (k : Fin 6) : Memref sig .tc .vmem S512x256 .bf16 := match k with
  | 0 => slot0 (Memref.whole cc0_scratch0) | 1 => slot0 (Memref.whole cc0_scratch1)
  | 2 => slot1 (Memref.whole cc0_scratch0) | 3 => slot1 (Memref.whole cc0_scratch1)
  | 4 => Memref.whole cc0_scratch4 | 5 => Memref.whole cc0_scratch5
/-- What transfer `k` writes, on the device that receives. -/
abbrev dstM (k : Fin 6) : Memref sig .tc .vmem S512x256 .bf16 := match k with
  | 0 => slot0 (Memref.whole cc0_scratch2) | 1 => slot0 (Memref.whole cc0_scratch3)
  | 2 => slot1 (Memref.whole cc0_scratch2) | 3 => slot1 (Memref.whole cc0_scratch3)
  | 4 => Memref.whole cc0_scratch6 | 5 => Memref.whole cc0_scratch7

/-! ## The rows read from the argument -/

/-- The left half of the block of rows of device `c`'s partner number `r + 1`, as device `c` reads it from `f`. -/
def leftOf (f : Vec F S1x2048x512 .bf16) (c : Dev nD) (r : Fin 3) : Vec F S1x512x256 .bf16 :=
  xM.view.readAt (Elt F) (Rect.unit (s := S1x2048x512) (k0_off1 c (BitVec.ofNat 32 (1 + r.val))) S1x512x256.size
    (k0_off1_inb c r)).toLoadRect f
/-- The right half of it. -/
def rightOf (f : Vec F S1x2048x512 .bf16) (c : Dev nD) (r : Fin 3) : Vec F S1x512x256 .bf16 :=
  xM.view.readAt (Elt F) (Rect.unit (s := S1x2048x512) (k0_off2 c (BitVec.ofNat 32 (1 + r.val))) S1x512x256.size
    (k0_off2_inb c r)).toLoadRect f
/-- The left half of device `c`'s own block of rows. -/
def leftOwn (f : Vec F S1x2048x512 .bf16) (c : Dev nD) : Vec F S1x512x256 .bf16 :=
  xM.view.readAt (Elt F) (Rect.unit (s := S1x2048x512) (k0_off3 c) S1x512x256.size (k0_off3_inb c)).toLoadRect f
/-- The right half of it. -/
def rightOwn (f : Vec F S1x2048x512 .bf16) (c : Dev nD) : Vec F S1x512x256 .bf16 :=
  xM.view.readAt (Elt F) (Rect.unit (s := S1x2048x512) (k0_off4 c) S1x512x256.size (k0_off4_inb c)).toLoadRect f

/-- A block with a leading axis of length one, and back. -/
abbrev flat (v : Vec F S1x512x256 .bf16) : Vec F S512x256 .bf16 := shapeCast S512x256 v shapeCasts_S1x512x256_S512x256
abbrev lift (v : Vec F S512x256 .bf16) : Vec F S1x512x256 .bf16 := shapeCast S1x512x256 v shapeCasts_S512x256_S1x512x256

/-- Two halves side by side: the left one where the column is below 256, the right one elsewhere. -/
def halves (l r : Vec F S512x256 .f32) : Vec F S512x512 .f32 := fun i =>
  if h : (i 1).val < 256 then l (fun a => match a with | ⟨0, _⟩ => i 0 | ⟨1, _⟩ => ⟨(i 1).val, h⟩)
  else r (fun a => match a with
    | ⟨0, _⟩ => i 0 | ⟨1, _⟩ => ⟨(i 1).val - 256, by have h1 : (i 1).val < 512 := (i 1).isLt; show (i 1).val - 256 < 256; omega⟩)

/-! ## What travels -/

section
variable (x : Dev nD → Vec F S1x2048x512 .bf16)

/-- The first four transfers: blocks of the sender's own argument. -/
def val₁ (k : Fin 6) (c : Dev nD) : Vec F S512x256 .bf16 := match k with
  | 0 => flat (k0_pay1 (leftOf (x c) c 1)) | 1 => flat (k0_pay2 (rightOf (x c) c 1))
  | 2 => flat (k0_pay3 (leftOf (x c) c 0)) | _ => flat (k0_pay4 (rightOf (x c) c 2))

/-- The sender's own part of transfers 4 and 5. -/
def locL (c : Dev nD) : Vec F S512x256 .bf16 := k0_pay6 (k0_pay5 (leftOf (x c) c 2))
def locR (c : Dev nD) : Vec F S512x256 .bf16 := k0_pay7 (rightOf (x c) c 0)

/-- What transfer `k` of device `c` carries: the last two the sums of what `c` received first and its own part. -/
def val (k : Fin 6) (c : Dev nD) : Vec F S512x256 .bf16 := match k with
  | 4 => k0_pay8 (locL x c) (lift (val₁ x 0 (tgt 0 c))) | 5 => k0_pay9 (locR x c) (lift (val₁ x 1 (tgt 1 c)))
  | k => val₁ x k c

/-- What device `c` receives by transfer `k`. -/
def got (k : Fin 6) (c : Dev nD) : Vec F S512x256 .bf16 := val x k (tgt k c)

/-- Device `c`'s own rows and what came straight from its neighbour, left and right. -/
def ownL (c : Dev nD) : Vec F S512x256 .f32 := k0_pay10 (leftOwn (x c) c) (lift (got x 2 c))
def ownR (c : Dev nD) : Vec F S512x256 .f32 := k0_pay13 (k0_pay11 (rightOwn (x c) c)) (k0_pay12 (lift (got x 3 c)))

/-- The two halves of device `c`'s result, given the staged scale `g`. -/
def outL (g : Vec F S512 .bf16) (c : Dev nD) : Vec F S512x256 .f32 :=
  k0_pay18 (k0_pay17 (ownL x c) (got x 4 c) (ownR x c) (got x 5 c))
    (gM.view.readAt (Elt F) (Rect.unit (s := S512) ![0] S256.size inb_S512_S256_0).toLoadRect g)
def outR (g : Vec F S512 .bf16) (c : Dev nD) : Vec F S512x256 .f32 :=
  k0_pay19 (k0_pay15 (ownR x c) (got x 5 c)) (k0_pay16 (ownL x c) (got x 4 c) (ownR x c) (got x 5 c))
    (gM.view.readAt (Elt F) (Rect.unit (s := S512) ![256] S256.size inb_S512_S256_256).toLoadRect g)

/-- Device `c`'s result. -/
def outAt (g : Vec F S512 .bf16) (c : Dev nD) : Vec F S512x512 .f32 := halves (outL x g c) (outR x g c)

end

end Cert.ScatterProof

end
-- ==== Proof.Protocol.lean ====
/-
# The protocol of the exchange

Every device has thirteen counters: the barrier (both partners raise it by one), six send counters and six receive
counters (each raised once, by one block's credit). A partner's barrier signal hands over the landing buffers it
will write; a send counter gives the sender its source back; a receive counter gives the receiver its landing buffer
at the sender's value. This module states that as a schedule of one round, the levels that make every wait safe, and
what each device owes at launch.
-/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's and the exchange's -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The counters -/

/-- The barrier semaphore, and the send and receive semaphores of transfer `k`. -/
abbrev barS : Sem sig := (SemArray.scalar (sig.barrier 0 rfl) : Sems sig S_).sem
def sS (k : Fin 6) : DmaSem sig := ⟨3 + k.val, by have := k.isLt; show 3 + k.val < 15; omega⟩
def rS (k : Fin 6) : DmaSem sig := ⟨9 + k.val, by have := k.isLt; show 9 + k.val < 15; omega⟩

abbrev barCell (c : Dev nD) : GSem nD τ sig := ((c : Thread nD τ), .reg barS)
abbrev sendCell (k : Fin 6) (c : Dev nD) : GSem nD τ sig := ((c : Thread nD τ), .dma (sS k))
abbrev recvCell (k : Fin 6) (c : Dev nD) : GSem nD τ sig := ((c : Thread nD τ), .dma (rS k))

/-- The scoped counters: the sends, then the receives. -/
def osem (i : Fin 12) : SemLoc sig := .dma ⟨3 + i.val, by have := i.isLt; show 3 + i.val < 15; omega⟩
/-- A device's counters by kind: the barrier, a send, a receive. -/
abbrev CK : Type := Option (Bool × Fin 6)
abbrev csem : CK → SemLoc sig
  | none => .reg barS | some (false, k) => .dma (sS k) | some (true, k) => .dma (rS k)
abbrev kcell (ck : Dev nD × CK) : GSem nD τ sig := ((ck.1 : Thread nD τ), csem ck.2)

/-- The credit of one block. -/
abbrev N : ℕ := (Memref.whole cc0_scratch6 : Memref sig .tc .vmem S512x256 .bf16).view.dmaCredit
theorem N_pos : 0 < N := View.dmaCredit_pos _ (by decide)
theorem credit_dst (k : Fin 6) : (dstM k).view.dmaCredit = N := by fin_cases k <;> rfl
theorem credit_src (k : Fin 6) : (srcM k).view.dmaCredit = N := by fin_cases k <;> rfl

/-! ## What the counters hand over -/

/-- The landing buffer of transfer `k` on device `c`, at any contents. -/
def free (k : Fin 6) (c : Dev nD) : sProp 𝕄 := iprop(∃ X, owns (c : Thread nD τ) (dstM k) fullShare X)
/-- The source of transfer `k` on device `c`, at any contents. -/
def back (k : Fin 6) (c : Dev nD) : sProp 𝕄 := iprop(∃ X, owns (c : Thread nD τ) (srcM k) fullShare X)
/-- The landing buffer of transfer `k` on device `c`, holding what the partner sent. -/
def landed (x : Dev nD → Vec F S1x2048x512 .bf16) (k : Fin 6) (c : Dev nD) : sProp 𝕄 :=
  owns (c : Thread nD τ) (dstM k) fullShare (got x k c)
/-- What device `c`'s barrier hands it: the landing buffers, on either partner, of the transfers `c` sends there. -/
def barPay (c : Dev nD) : Bool → sProp 𝕄
  | false => iprop(free 0 (q1 c) ∗ free 2 (q1 c) ∗ free 5 (q1 c))
  | true => iprop(free 1 (q3 c) ∗ free 3 (q3 c) ∗ free 4 (q3 c))

/-- What counter `sm` of device `c` hands over. -/
def pay (x : Dev nD → Vec F S1x2048x512 .bf16) (c : Dev nD) : SemLoc sig → Bool → sProp 𝕄
  | .reg _, d => barPay c d
  | .dma q, _ =>
    if h : 9 ≤ q.val then landed x ⟨q.val - 9, by have h1 : q.val < 15 := q.isLt; omega⟩ c
    else if h' : 3 ≤ q.val then back ⟨q.val - 3, by omega⟩ c else iprop(emp)

omit [FloatOps F] in
instance free_storable (k : Fin 6) (c : Dev nD) : BI.Storable (upEmb : UEmb _ 𝕄) (free (F := F) k c) := by
  unfold free; infer_instance
omit [FloatOps F] in
instance back_storable (k : Fin 6) (c : Dev nD) : BI.Storable (upEmb : UEmb _ 𝕄) (back (F := F) k c) := by
  unfold back; infer_instance
instance landed_storable (x : Dev nD → Vec F S1x2048x512 .bf16) (k : Fin 6) (c : Dev nD) :
    BI.Storable (upEmb : UEmb _ 𝕄) (landed x k c) := by unfold landed; infer_instance
omit [FloatOps F] in
instance barPay_storable (c : Dev nD) (d : Bool) : BI.Storable (upEmb : UEmb _ 𝕄) (barPay (F := F) c d) := by
  cases d <;> (unfold barPay; infer_instance)
instance pay_storable (x : Dev nD → Vec F S1x2048x512 .bf16) (c : Dev nD) (sm : SemLoc sig) (d : Bool) :
    BI.Storable (upEmb : UEmb _ 𝕄) (pay x c sm d) := by
  unfold pay; split
  · infer_instance
  · (repeat' split) <;> infer_instance

/-! ## The schedule -/

/-- Which duties a counter has: the barrier both, a transfer's counter one. -/
def dutiesOf : SemLoc sig → Finset Bool
  | .reg _ => Finset.univ
  | .dma q => if 3 ≤ q.val then {false} else ∅

/-- How many units a duty of a counter brings. -/
def unitsOf : SemLoc sig → ℕ
  | .reg _ => 1
  | .dma _ => N

/-- One round of the exchange. -/
def rd (x : Dev nD → Vec F S1x2048x512 .bf16) : Rounds.Schedule (GSem nD τ sig) Bool 𝕄 where
  duties g r := if r = 0 ∧ g.1.2 = .tc then dutiesOf g.2 else ∅
  unitless _ := False
  amount g _ _ := unitsOf g.2
  payload g _ d := pay x g.1.1 g.2 d
  amount_pos g _ _ _ := by
    cases g.2 with
    | reg _ => exact Nat.one_pos
    | dma _ => exact N_pos

instance rd_storable (x : Dev nD → Vec F S1x2048x512 .bf16) (g : GSem nD τ sig) (r : ℕ) (d : Bool) :
    BI.Storable (upEmb : UEmb _ 𝕄) ((rd x).payload g r d) := by
  show BI.Storable upEmb (pay x g.1.1 g.2 d); infer_instance

section Sched
variable (x : Dev nD → Vec F S1x2048x512 .bf16) (k : Fin 6) (c : Dev nD)

theorem duties_tc (sm : SemLoc sig) : (rd x).duties ((c : Thread nD τ), sm) 0 = dutiesOf sm := by
  dsimp only [rd]; exact if_pos ⟨rfl, rfl⟩
theorem duties_later (g : GSem nD τ sig) : ∀ r, 1 ≤ r → (rd x).duties g r = ∅ :=
  fun r hr => if_neg fun h => by have := h.1; omega

theorem dutiesOf_send : dutiesOf (.dma (sS k)) = {false} := if_pos (Nat.le_add_right 3 _)
theorem dutiesOf_recv : dutiesOf (.dma (rS k)) = {false} := if_pos (Nat.le_add_right_of_le (by decide))

theorem expect_bar : (rd x).expect (barCell c) 0 = 2 := by
  unfold Schedule.expect Schedule.amountOf; rw [duties_tc]; rfl
theorem expect_send : (rd x).expect (sendCell k c) 0 = N := by
  unfold Schedule.expect Schedule.amountOf; rw [duties_tc, dutiesOf_send, Finset.sum_singleton]; rfl
theorem expect_recv : (rd x).expect (recvCell k c) 0 = N := by
  unfold Schedule.expect Schedule.amountOf; rw [duties_tc, dutiesOf_recv, Finset.sum_singleton]; rfl

theorem payload_bar (d : Bool) : (rd x).payload (barCell c) 0 d = barPay c d := rfl
theorem payload_send (d : Bool) : (rd x).payload (sendCell k c) 0 d = back k c := by
  have h1 : ¬ 9 ≤ (sS k).val := by have := k.isLt; show ¬ 9 ≤ 3 + k.val; omega
  have h2 : 3 ≤ (sS k).val := Nat.le_add_right 3 _
  show pay x c (.dma (sS k)) d = _
  unfold pay
  dsimp only
  rw [dif_neg h1, dif_pos h2]
  congr 1; exact Fin.ext (Nat.add_sub_cancel_left 3 _)
theorem payload_recv (d : Bool) : (rd x).payload (recvCell k c) 0 d = landed x k c := by
  have h1 : 9 ≤ (rS k).val := Nat.le_add_right 9 _
  show pay x c (.dma (rS k)) d = _
  unfold pay
  dsimp only
  rw [dif_pos h1]
  congr 1; exact Fin.ext (Nat.add_sub_cancel_left 9 _)

/-- The whole round of each counter, as its owner gets it. -/
theorem rest_bar : bigSep ((rd x).duties (barCell c) 0 \ ∅) (fun d => (rd x).payload (barCell c) 0 d)
    = iprop(barPay c false ∗ barPay c true) := by
  rw [Finset.sdiff_empty, duties_tc]
  show bigSep Finset.univ _ = _
  rw [bigSep_univ_eq_bigSepL [false, true] (by decide) (by decide), bigSepL_cons_cons, bigSepL_singleton]
  rfl
theorem rest_send : bigSep ((rd x).duties (sendCell k c) 0 \ ∅) (fun d => (rd x).payload (sendCell k c) 0 d) = back k c := by
  rw [Finset.sdiff_empty, duties_tc, dutiesOf_send, bigSep_singleton, payload_send]
theorem rest_recv : bigSep ((rd x).duties (recvCell k c) 0 \ ∅) (fun d => (rd x).payload (recvCell k c) 0 d) = landed x k c := by
  rw [Finset.sdiff_empty, duties_tc, dutiesOf_recv, bigSep_singleton, payload_recv]

end Sched

/-! ## What a device owes; the levels -/

/-- The receive credits device `c` still owes when the transfers `ks` are to come. -/
def dues (c : Dev nD) : List (Fin 6) → CellTallies nD τ sig Unit
  | [] => 0
  | k :: ks => dues c ks + tallyAt (recvCell k (tgt k c)) () N

/-- The six transfers in program order. -/
abbrev allK : List (Fin 6) := [0, 1, 2, 3, 4, 5]

def O₁ (c : Dev nD) : CellTallies nD τ sig Unit := dues c allK + tallyAt (barCell (q3 c)) () 1
/-- At launch: the six receive credits and one unit to either partner's barrier. -/
def O₀ (c : Dev nD) : CellTallies nD τ sig Unit := O₁ c + tallyAt (barCell (q1 c)) () 1

def L (g : GSem nD τ sig) : Finset Unit := if g.1.2 = .tc then {()} else ∅
/-- The barrier above the staging and send counters, the first two receives above it, the others on top. -/
def lvOf : SemLoc sig → ℕ
  | .reg _ => 1
  | .dma q => if q.val < 9 then 0 else if q.val < 11 then 2 else 3
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- All that `O` owes lies on TensorCores' counters above level `n`. -/
def Above (n : ℕ) (O : CellTallies nD τ sig Unit) : Prop := ∀ g u, 0 < O g u → g.1.2 = .tc ∧ n < lvOf g.2

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (a : ℕ) (h : n < lvOf sm) :
    Above n (tallyAt ((c : Thread nD τ), sm) () a) := fun g u hg => by
  rw [tallyAt_apply] at hg
  by_cases hp : g = ((c : Thread nD τ), sm) ∧ u = ()
  · rw [hp.1]; exact ⟨rfl, h⟩
  · rw [if_neg hp] at hg; exact absurd hg (Nat.lt_irrefl 0)
theorem above_dues {n : ℕ} (c : Dev nD) : ∀ ks : List (Fin 6), (∀ k ∈ ks, n < lvOf (.dma (rS k))) → Above n (dues c ks)
  | [], _ => above_zero n
  | k :: ks, h => above_add (above_dues c ks fun k' hk' => h k' (List.mem_cons_of_mem _ hk'))
      (above_tally _ _ _ (h k List.mem_cons_self))

theorem above_O₀ (c : Dev nD) : Above 0 (O₀ c) :=
  above_add (above_add (above_dues c allK (by decide)) (above_tally _ _ _ (by decide))) (above_tally _ _ _ (by decide))

omit [FloatOps F] in
/-- A device may wait at a counter below everything it owes. -/
theorem mayWait (c : Dev nD) (sm : SemLoc sig) (O : CellTallies nD τ sig Unit) (h : Above (lvOf sm) O) :
    (levAts L lv : sProp 𝕄) ⊢ MayWait (c : Thread nD τ) sm () O :=
  MayOwe.of_cut (L := L) (lev := lv) (lvOf sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact le_refl _)
    (fun g u hg => (h g u hg).2)

end Cert.ScatterProof

end
-- ==== Proof.Buffers.lean ====
/-
# The buffers in the proof

Loads and stores through a half of a buffer of two blocks and through a whole block, stated once for every buffer;
a buffer of two blocks cut into its halves and put together; the two stores of the result.
-/
module

public import proofs.«01_k».proof.Proof.Protocol

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` to `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## A half of a buffer of two blocks -/

abbrev InB (j : ℕ) : Prop := ∀ a, (![j, 0, 0] : Fin 3 → Nat) a + S1x512x256.size a ≤ S2x512x256.size a
/-- Block `j` of a buffer of two. -/
abbrev blk (j : ℕ) (inb : InB j) : Rect S2x512x256 := Rect.unit (s := S2x512x256) ![j, 0, 0] S1x512x256.size inb
abbrev slotOf (M : Memref sig .tc .vmem S2x512x256 .bf16) (j : ℕ) (inb : InB j) : Memref sig .tc .vmem S512x256 .bf16 :=
  (M.slice (blk j inb) (fun _ => rfl)).squeeze S512x256 squeezes_S1x512x256_S512x256

omit [FloatOps F] in
theorem lift_flat (v : Vec F S1x512x256 .bf16) : lift (flat v) = v := by
  funext i
  show v ((Shape.reshapeEquiv _) ((Shape.reshapeEquiv _) i)) = v i
  congr 1
  apply (Shape.rowMajor _).injective
  apply Fin.ext
  rw [Shape.rowMajor_reshapeEquiv, Shape.rowMajor_reshapeEquiv]

theorem slot_set (M : Memref sig .tc .vmem S2x512x256 .bf16) (j : ℕ) (inb : InB j) :
    (slotOf M j inb).view.set = M.view.setOn (blk j inb).set := by
  show ((M.view.slice (blk j inb)).reshape S512x256 _).set = _
  rw [View.set_reshape, View.set_slice]; rfl

/-- A load of block `j` through its half: the block, with the leading axis. -/
theorem wp_load_slot (c : Dev nD) (M : Memref sig .tc .vmem S2x512x256 .bf16) (j : ℕ) (inb : InB j) (X : Vec F S512x256 .bf16)
    {hl : M.view.LoadsAt (blk j inb).toLoadRect} {α : Type} {Q : α → sProp 𝕄}
    {k : Vec F S1x512x256 .bf16 → Prog (TpuEff nD τ sig (Elt F) Λ₀ .tc) α} :
    (owns (c : Thread nD τ) (slotOf M j inb) fullShare X : sProp 𝕄)
      ⊢ iprop((owns (c : Thread nD τ) (slotOf M j inb) fullShare X -∗ WP c (k (lift X)) Q)
          -∗ WP c (.op (.load M (blk j inb).toLoadRect hl) k) Q) := by
  unfold owns
  iintro ⟨%f, %hf, H⟩ Hk
  have hv : M.view.readAt (Elt F) (blk j inb).toLoadRect f = lift X := by
    rw [← hf]; exact (lift_flat _).symm
  iapply (wp_load 𝒱₀ (c : Thread nD τ) none Set.univ (m := M) (S := (slotOf M j inb).view.set) (by rw [slot_set])) $$ H
  iintro H
  rw [hv]
  iapply Hk
  iexists f
  isplitr
  · ipureintro; exact hf
  · iexact H

/-- A store of block `j` through its half. -/
theorem wp_store_slot (c : Dev nD) (M : Memref sig .tc .vmem S2x512x256 .bf16) (j : ℕ) (inb : InB j) (X : Vec F S512x256 .bf16)
    (w : Vec F S1x512x256 .bf16) {hx : (M.access (blk j inb)).Stores Finset.univ}
    {hm : (Finset.univ : Finset (blk j inb).shape.Idx) = Finset.univ ∨ ∀ a, (blk j inb).stride a = 1} {α : Type} {Q : α → sProp 𝕄}
    {k : PUnit → Prog (TpuEff nD τ sig (Elt F) Λ₀ .tc) α} :
    (owns (c : Thread nD τ) (slotOf M j inb) fullShare X : sProp 𝕄)
      ⊢ iprop((owns (c : Thread nD τ) (slotOf M j inb) fullShare (flat w) -∗ WP c (k ⟨⟩) Q)
          -∗ WP c (.op (.store M (blk j inb) w Finset.univ hx hm) k) Q) := by
  unfold owns
  iintro ⟨%f, %hf, H⟩ Hk
  iapply (wp_store 𝒱₀ (c : Thread nD τ) none Set.univ (m := M) (r := blk j inb) (S := (slotOf M j inb).view.set) (by
    rw [slot_set]; show (M.view.slice (blk j inb)).set ⊆ _; rw [View.set_slice]; exact subset_rfl)) $$ H
  iintro H
  iapply Hk
  iexists _
  isplitr
  · ipureintro
    exact congrArg (fun v => flat v) (View.read_write_univ (Val := Elt F) (v := M.access (blk j inb)) f w)
  · iexact H

/-! ## A whole block -/

/-- The whole of a block. -/
abbrev full : Rect S512x256 := Rect.unit (s := S512x256) ![0, 0] S512x256.size inb_S512x256_S512x256_0_0

omit [FloatOps F] in
theorem readAt_full {e : EltTy} (M : Memref sig .tc .vmem S512x256 e) (f : M.view.ty.Contents (Elt F)) :
    M.view.readAt (Elt F) full.toLoadRect f = M.view.read (Elt F) f := by
  funext i
  show M.view.read (Elt F) f (full.emb i) = _
  congr 1
  funext a
  apply Fin.ext
  rw [Rect.emb_apply]
  fin_cases a <;> exact (Nat.zero_add _).trans (Nat.one_mul _)

/-- A load of a whole block. -/
theorem wp_load_full (c : Dev nD) {e : EltTy} (M : Memref sig .tc .vmem S512x256 e) (X : Vec F S512x256 e)
    {hl : M.view.LoadsAt full.toLoadRect} {α : Type} {Q : α → sProp 𝕄}
    {k : Vec F S512x256 e → Prog (TpuEff nD τ sig (Elt F) Λ₀ .tc) α} :
    (owns (c : Thread nD τ) M fullShare X : sProp 𝕄)
      ⊢ iprop((owns (c : Thread nD τ) M fullShare X -∗ WP c (k X) Q) -∗ WP c (.op (.load M full.toLoadRect hl) k) Q) := by
  unfold owns
  iintro ⟨%f, %hf, H⟩ Hk
  iapply (wp_load 𝒱₀ (c : Thread nD τ) none Set.univ (m := M) (S := M.view.set) (View.setOn_subset_set _ _)) $$ H
  iintro H
  rw [readAt_full, hf]
  iapply Hk
  iexists f
  isplitr
  · ipureintro; exact hf
  · iexact H

/-- A store of a whole block. -/
theorem wp_store_full (c : Dev nD) {e : EltTy} (M : Memref sig .tc .vmem S512x256 e) (X w : Vec F S512x256 e)
    {hx : (M.access full).Stores Finset.univ}
    {hm : (Finset.univ : Finset full.shape.Idx) = Finset.univ ∨ ∀ a, full.stride a = 1} {α : Type} {Q : α → sProp 𝕄}
    {k : PUnit → Prog (TpuEff nD τ sig (Elt F) Λ₀ .tc) α} :
    (owns (c : Thread nD τ) M fullShare X : sProp 𝕄)
      ⊢ iprop((owns (c : Thread nD τ) M fullShare w -∗ WP c (k ⟨⟩) Q) -∗ WP c (.op (.store M full w Finset.univ hx hm) k) Q) := by
  unfold owns
  iintro ⟨%f, %hf, H⟩ Hk
  iapply (wp_store 𝒱₀ (c : Thread nD τ) none Set.univ (m := M) (r := full) (S := M.view.set) (View.set_slice_subset _ _)) $$ H
  iintro H
  iapply Hk
  iexists _
  isplitr
  · ipureintro
    exact (readAt_full M _).symm.trans (View.read_write_univ (Val := Elt F) (v := M.access full) f w)
  · iexact H

/-! ## Cutting and joining -/

abbrev in0 : InB 0 := inb_S2x512x256_S1x512x256_0_0_0
abbrev in1 : InB 1 := inb_S2x512x256_S1x512x256_1_0_0

theorem blk_disjoint : Disjoint (blk 0 in0).set (blk 1 in1).set := Rect.unit_disjoint 0 (Or.inl (by decide))
theorem blk_union : (blk 0 in0).set ∪ (blk 1 in1).set = Finset.univ := by
  ext i
  simp only [Finset.mem_union, Finset.mem_univ, iff_true, Rect.mem_set_unit]
  have h0 : (i 0).val < 2 := (i 0).isLt
  have h1 : (i 1).val < 512 := (i 1).isLt
  have h2 : (i 2).val < 256 := (i 2).isLt
  rcases Nat.lt_or_ge (i 0).val 1 with h | h
  · left; intro a; fin_cases a
    · exact ⟨Nat.zero_le _, h⟩
    · exact ⟨Nat.zero_le _, (Nat.zero_add 512).symm ▸ h1⟩
    · exact ⟨Nat.zero_le _, (Nat.zero_add 256).symm ▸ h2⟩
  · right; intro a; fin_cases a
    · exact ⟨h, h0⟩
    · exact ⟨Nat.zero_le _, (Nat.zero_add 512).symm ▸ h1⟩
    · exact ⟨Nat.zero_le _, (Nat.zero_add 256).symm ▸ h2⟩

theorem slots_disjoint (M : Memref sig .tc .vmem S2x512x256 .bf16) : Disjoint (slotOf M 0 in0).view.set (slotOf M 1 in1).view.set := by
  rw [slot_set, slot_set]; exact (Finset.disjoint_map _).mpr blk_disjoint
theorem slots_union (M : Memref sig .tc .vmem S2x512x256 .bf16) :
    (slotOf M 0 in0).view.set ∪ (slotOf M 1 in1).view.set = M.view.set := by
  rw [slot_set, slot_set]; unfold View.setOn; rw [← Finset.map_union, blk_union]; rfl

omit [FloatOps F] in
/-- A buffer of two blocks is its two halves, -/
theorem two_split (c : Dev nD) (M : Memref sig .tc .vmem S2x512x256 .bf16) (f : M.view.ty.Contents (Elt F)) :
    (M.view.loc (c : Thread nD τ) ↦[M.view.set]{fullShare} f : sProp 𝕄)
      ⊢ iprop((∃ X, owns (c : Thread nD τ) (slotOf M 0 in0) fullShare X) ∗ ∃ X, owns (c : Thread nD τ) (slotOf M 1 in1) fullShare X) := by
  rw [← slots_union M]
  refine (pointsTo_union (slots_disjoint M)).1.trans ?_
  iintro ⟨H0, H1⟩
  isplitl [H0]
  · iexists _; iapply (owns_intro (c : Thread nD τ) (slotOf M 0 in0) fullShare f); iexact H0
  · iexists _; iapply (owns_intro (c : Thread nD τ) (slotOf M 1 in1) fullShare f); iexact H1

omit [FloatOps F] in
/-- and its two halves are the buffer. -/
theorem two_join (c : Dev nD) (M : Memref sig .tc .vmem S2x512x256 .bf16) :
    iprop((∃ X, owns (c : Thread nD τ) (slotOf M 0 in0) fullShare X) ∗ ∃ X, owns (c : Thread nD τ) (slotOf M 1 in1) fullShare X)
      ⊢ (iprop(∃ f : M.view.ty.Contents (Elt F), M.view.loc (c : Thread nD τ) ↦[M.view.set]{fullShare} f) : sProp 𝕄) := by
  unfold owns
  iintro ⟨⟨%X, %f, -, H0⟩, ⟨%Y, %g, -, H1⟩⟩
  iexists _
  rw [← slots_union M]
  iapply (pointsTo_join (slots_disjoint M))
  isplitl [H0]
  · iexact H0
  · iexact H1

/-! ## The result's two stores -/

abbrev outRectL : Rect S512x512 := Rect.unit (s := S512x512) ![0, 0] S512x256.size inb_S512x512_S512x256_0_0
abbrev outRectR : Rect S512x512 := Rect.unit (s := S512x512) ![0, 256] S512x256.size inb_S512x512_S512x256_0_256

omit [FloatOps F] in
/-- The left half, then the right half stored: whatever was there before is gone. -/
theorem write_out (f : Vec F S512x512 .f32) (l r : Vec F S512x256 .f32) :
    ((oM.access outRectR : View sig .tc _ _ _)).write (Elt F)
      ((oM.access outRectL : View sig .tc _ _ _).write (Elt F) f l Finset.univ) r Finset.univ = halves l r := by
  funext i
  unfold halves
  have h0 : (i 0).val < 512 := (i 0).isLt
  have h1 : (i 1).val < 512 := (i 1).isLt
  by_cases h : (i 1).val < 256
  · rw [dif_pos h]
    have hn : i ∉ (oM.access outRectR : View sig .tc _ _ _).setOn Finset.univ := by
      show i ∉ ((View.whole cc0_stg2_0).slice outRectR).set
      rw [View.set_slice_whole, Rect.mem_set_unit]
      intro hh; exact absurd (hh 1).1 (Nat.not_le.2 h)
    refine (View.write_of_not_mem (Val := Elt F) (v := (oM.access outRectR : View sig .tc _ _ _)) _ _ _ hn).trans ?_
    have hi : i = (oM.access outRectL : View sig .tc _ _ _).emb (fun a => match a with | ⟨0, _⟩ => i 0 | ⟨1, _⟩ => ⟨(i 1).val, h⟩) := by
      funext a; apply Fin.ext; fin_cases a
      · exact (Nat.zero_add _).symm.trans (congrArg _ (Nat.one_mul _).symm)
      · exact (Nat.zero_add _).symm.trans (congrArg _ (Nat.one_mul _).symm)
    conv_lhs => rw [hi]
    exact View.write_emb_of_mem (Val := Elt F) (v := (oM.access outRectL : View sig .tc _ _ _)) _ _ (Finset.mem_univ _)
  · rw [dif_neg h]
    have hi : i = (oM.access outRectR : View sig .tc _ _ _).emb (fun a => match a with
        | ⟨0, _⟩ => i 0 | ⟨1, _⟩ => ⟨(i 1).val - 256, by show (i 1).val - 256 < 256; omega⟩) := by
      funext a; apply Fin.ext; fin_cases a
      · exact (Nat.zero_add _).symm.trans (congrArg _ (Nat.one_mul _).symm)
      · show (i 1).val = 256 + 1 * ((i 1).val - 256); omega
    conv_lhs => rw [hi]
    exact View.write_emb_of_mem (Val := Elt F) (v := (oM.access outRectR : View sig .tc _ _ _)) _ _ (Finset.mem_univ _)

end Cert.ScatterProof

end
-- ==== Proof.Steps.lean ====
/-
# The steps of the exchange

A device's two barrier signals, a transfer, the wait for a counter's whole round (after which the counter is closed
at zero): each stated once, for every transfer.
-/
module

public import proofs.«01_k».proof.Proof.Buffers

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → Vec F S1x2048x512 .bf16) (K : Dev nD × CK → ℕ)

/-- Every counter's invariant, under the names `K`, that every counter has reached its round, and the levels. -/
def records : sProp 𝕄 :=
  iprop((bigSep Finset.univ fun ck => cellInv ER (rd x) (K ck) (kcell ck)) ∗ (bigSep Finset.univ fun ck => reached ER (kcell ck) 0)
    ∗ levAts L lv)

instance records_persistent : BI.Persistent (records x K) := by unfold records; infer_instance

theorem records_inv (ck : Dev nD × CK) : records x K ⊢ cellInv ER (rd x) (K ck) (kcell ck) := by
  unfold records
  iintro ⟨H, -, -⟩
  have h : (bigSep Finset.univ fun ck => cellInv ER (rd x) (K ck) (kcell ck)) ⊢ cellInv ER (rd x) (K ck) (kcell ck) :=
    bigSep_elim (Φ := fun ck => cellInv ER (rd x) (K ck) (kcell ck)) (Finset.mem_univ ck)
  iapply h; iexact H
theorem records_reached (ck : Dev nD × CK) : records x K ⊢ reached ER (kcell ck) 0 := by
  unfold records
  iintro ⟨-, H, -⟩
  have h : (bigSep Finset.univ fun ck => (reached ER (kcell ck) 0 : sProp 𝕄)) ⊢ reached ER (kcell ck) 0 :=
    bigSep_elim (Φ := fun ck => (reached ER (kcell ck) 0 : sProp 𝕄)) (Finset.mem_univ ck)
  iapply h; iexact H
theorem records_lev : records x K ⊢ levAts L lv := by
  unfold records; iintro ⟨-, -, H⟩; iexact H

/-- Device `c` owes `O`, whatever it has waited for. -/
def owing (c : Dev nD) (O : CellTallies nD τ sig Unit) : sProp 𝕄 := iprop(∃ W, owes (c : Thread nD τ) O W)

section
variable {x K}

/-- A unit to the barrier of device `n`, with what duty `d` hands over. -/
theorem wp_signal_bar (c n p : Dev nD) (hn : n = p) (d : Bool) (O : CellTallies nD τ sig Unit) {α : Type} {Q : α → sProp 𝕄} {a : ℕ} (ha : a = 1)
    {k : PUnit → Prog (TpuEff nD τ sig (Elt F) Λ₀ .tc) α} :
    iprop(records x K ∗ owing c (O + tallyAt (barCell p) () 1) ∗ dutyTok ER (barCell p) 0 d ∗ barPay p d)
      ⊢ iprop((owing c O -∗ WP c (k ⟨⟩) Q) -∗ WP c (.op (.semSignal (Dev.tc n : Thread nD τ) barS a) k) Q) := by
  subst hn; subst ha
  unfold owing
  iintro ⟨#HR, ⟨%W, HO⟩, Ht, Hp⟩ Hk
  iapply (Rounds.wp_signal 𝒱₀ ER (rd x) (c : Thread nD τ) none (dst := (n : Thread nD τ)) (κ := K (n, none))
      (d := d) (by rw [duties_tc]; exact Finset.mem_univ _) rfl () O rfl) $$ [HO Ht Hp]
  · isplitr; · iapply (records_inv x K (n, none)); iexact HR
    isplitl [HO]; · iexact HO
    isplitl [Ht]; · iexact Ht
    isplitl [Hp]; · rw [payload_bar]; iexact Hp
    iapply (records_reached x K (n, none)); iexact HR
  iintro HO
  iapply Hk
  iexists W; iexact HO

/-- A wait for the whole round of a counter below everything owed: what the round hands over, and the counter, which
    nothing raises again, at zero. -/
theorem wp_take (c : Dev nD) (i : CK) (a : ℕ) (P : sProp 𝕄) (O : CellTallies nD τ sig Unit)
    {w : TpuEff nD τ sig (Elt F) Λ₀ .tc PUnit}
    (hw : ∀ Kt : PUnit → sProp 𝕄, wpE (defs₀ (F := F)) 𝒱₀ (c : Thread nD τ) none Set.univ w Kt
      = waitSpec (c : Thread nD τ) Set.univ (csem i) a Kt)
    (ha : (rd x).expect (kcell (c, i)) 0 = a)
    (hP : bigSep ((rd x).duties (kcell (c, i)) 0 \ ∅) (fun d => (rd x).payload (kcell (c, i)) 0 d) = P)
    (hO : Above (lvOf (csem i)) O) {α : Type} {Q : α → sProp 𝕄} {k : PUnit → Prog (TpuEff nD τ sig (Elt F) Λ₀ .tc) α} :
    iprop(records x K ∗ cred (tallyAt (kcell (c, i)) () a) ∗ owing c O ∗ atPos ER (kcell (c, i)) 0 ∅ 0)
      ⊢ iprop(((owing c O ∗ semVal (kcell (c, i)) 0 ∗ P) -∗ WP c (k ⟨⟩) Q) -∗ WP c (.op w k) Q) := by
  unfold owing
  iintro ⟨#HR, Hc, ⟨%W, HO⟩, Hat⟩ Hk
  iapply (Rounds.wp_wait_rest_token 𝒱₀ ER (rd x) (c : Thread nD τ) none (κ := K (c, i)) hw (Set.mem_univ _) () (O := O) (W := W)
      (R := 0) (m := 0) (T := ∅) (by rw [Nat.zero_add]; exact ha.symm)) $$ [Hc HO Hat]
  · isplitr; · iapply (records_inv x K (c, i)); iexact HR
    isplitl [Hc]; · iexact Hc
    isplitl [HO]; · iexact HO
    isplitr; · iapply (mayWait c (csem i) O hO); iapply (records_lev x K); iexact HR
    iexact Hat
  iintro ⟨HO, Hat, -, Hpay⟩
  imod (Rounds.cell_close ER (rd x) (Set.mem_univ (K (c, i))) (fun h => h) (R := 0 + 1) (duties_later x (kcell (c, i)))) $$ [Hat] with Hz
  · isplitr; · iapply (records_inv x K (c, i)); iexact HR
    iexact Hat
  ihave Hpay := (Entails.of_eq hP) $$ Hpay
  iapply Hk
  isplitl [HO]; · iexists _; iexact HO
  isplitl [Hz]; · iexact Hz
  iexact Hpay

/-- The wait on the barrier. -/
theorem wp_take_bar (c : Dev nD) (O : CellTallies nD τ sig Unit) (hO : Above 1 O) {a : ℕ} (ha : a = 2) {α : Type} {Q : α → sProp 𝕄}
    {k : PUnit → Prog (TpuEff nD τ sig (Elt F) Λ₀ .tc) α} :
    iprop(records x K ∗ cred (tallyAt (barCell c) () 2) ∗ owing c O ∗ atPos ER (barCell c) 0 ∅ 0)
      ⊢ iprop(((owing c O ∗ semVal (barCell c) 0 ∗ barPay c false ∗ barPay c true) -∗ WP c (k ⟨⟩) Q)
          -∗ WP c (.op (.semWait barS a) k) Q) := by
  subst ha
  exact wp_take c none 2 _ O (wpE_semWait_eq 𝒱₀ (c : Thread nD τ) none Set.univ) (expect_bar x c) (rest_bar x c) hO

/-- The wait on the receive counter of transfer `j`. -/
theorem wp_take_recv (c : Dev nD) (j : Fin 6) (O : CellTallies nD τ sig Unit) (hO : Above (lvOf (.dma (rS j))) O)
    {s : DmaSem sig} (hs : s = rS j) {s1 : Shape} {e1 : EltTy} {src : Memref sig .tc .vmem s1 e1} {dst : Memref sig .tc .vmem S512x256 .bf16}
    (hd : dst.view.dmaCredit = N) {h1 : src.view.WordExact} {h2 : dst.view.WordExact} {α : Type} {Q : α → sProp 𝕄}
    {k : PUnit → Prog (TpuEff nD τ sig (Elt F) Λ₀ .tc) α} :
    iprop(records x K ∗ cred (tallyAt (recvCell j c) () N) ∗ owing c O ∗ atPos ER (recvCell j c) 0 ∅ 0)
      ⊢ iprop(((owing c O ∗ semVal (recvCell j c) 0 ∗ landed x j c) -∗ WP c (k ⟨⟩) Q) -∗ WP c (.op (.waitDma2 s src dst h1 h2) k) Q) := by
  subst hs
  exact wp_take c (some (true, j)) N _ O (fun Kt => (wpE_waitDma2_eq 𝒱₀ (c : Thread nD τ) none Set.univ Kt).trans (by rw [hd]))
    (expect_recv x j c) (rest_recv x j c) hO

/-- The wait on the send counter of transfer `j`, owing nothing. -/
theorem wp_take_send (c : Dev nD) (j : Fin 6)
    {s : DmaSem sig} (hs : s = sS j) {s1 : Shape} {e1 : EltTy} {src : Memref sig .tc .vmem s1 e1} {dst : Memref sig .tc .vmem S512x256 .bf16}
    (hd : dst.view.dmaCredit = N) {h1 : src.view.WordExact} {h2 : dst.view.WordExact} {α : Type} {Q : α → sProp 𝕄}
    {k : PUnit → Prog (TpuEff nD τ sig (Elt F) Λ₀ .tc) α} :
    iprop(records x K ∗ cred (tallyAt (sendCell j c) () N) ∗ owing c 0 ∗ atPos ER (sendCell j c) 0 ∅ 0)
      ⊢ iprop(((owing c 0 ∗ semVal (sendCell j c) 0 ∗ back j c) -∗ WP c (k ⟨⟩) Q) -∗ WP c (.op (.waitDma2 s src dst h1 h2) k) Q) := by
  subst hs
  exact wp_take c (some (false, j)) N _ 0 (fun Kt => (wpE_waitDma2_eq 𝒱₀ (c : Thread nD τ) none Set.univ Kt).trans (by rw [hd]))
    (expect_send x j c) (rest_send x j c) (above_zero _)

/-- Transfer `j`: the source, at the value transfer `j` is to carry, goes to the partner's landing buffer; the send
    counter's credit comes back, and the receive credit is no longer owed. -/
theorem wp_transfer (c n : Dev nD) (j : Fin 6) (hn : n = tgt j c) (ks : List (Fin 6)) {src dst : Memref sig .tc .vmem S512x256 .bf16}
    (hsrc : src = srcM j) (hdst : dst = dstM j) {s r : DmaSem sig} (hs : s = sS j) (hr : r = rS j)
    {hsc : (dst : Memref sig (Dev.tc n : Thread nD τ).2.kind .vmem S512x256 .bf16).view.ref.isScScratch = false}
    {h1 : src.view.WordExact} {h2 : dst.view.WordExact}
    {h3 : DmaTarget.Typed .vmem (.dma r) (.remote (Dev.tc n : Thread nD τ) (dst : Memref sig (Dev.tc n : Thread nD τ).2.kind .vmem S512x256 .bf16) (.dma s) hsc)}
    {X : Vec F S512x256 .bf16} (hX : X = val x j c) {α : Type} {Q : α → sProp 𝕄}
    {k : PUnit → Prog (TpuEff nD τ sig (Elt F) Λ₀ .tc) α} :
    iprop(records x K ∗ owns (c : Thread nD τ) src fullShare X ∗ free j (tgt j c) ∗ owing c (dues c (j :: ks))
        ∗ dutyTok ER (sendCell j c) 0 false ∗ dutyTok ER (recvCell j (tgt j c)) 0 false)
      ⊢ iprop(((cred (tallyAt (sendCell j c) () N) ∗ owing c (dues c ks)) -∗ WP c (k ⟨⟩) Q)
          -∗ WP c (.op (.enqueueDma src (.remote (Dev.tc n : Thread nD τ) dst (.dma s) hsc) (.dma r) h1 h2 h3) k) Q) := by
  subst hn hsrc hdst hs hr hX
  unfold owing free owns
  iintro ⟨#HR, ⟨%fs, %hfs, Hs⟩, ⟨%Y, %fd, -, Hd⟩, ⟨%W, HO⟩, HtS, HtV⟩ Hk
  iapply (Rounds.wp_send_pointsTo 𝒱₀ ER (rd x) (c : Thread nD τ) none (c' := (tgt j c : Thread nD τ)) (src := srcM j)
    (dst := dstM j) (sS := .dma (sS j)) (sem := .dma (rS j)) (κ₁ := K (c, some (false, j))) (κ₂ := K (tgt j c, some (true, j)))
    (r₁ := 0) (r₂ := 0) (d₁ := false) (d₂ := false) (fd := fd)
    (by rw [duties_tc, dutiesOf_send]; exact Finset.mem_singleton_self _) (by rw [duties_tc, dutiesOf_recv]; exact Finset.mem_singleton_self _)
    () () N (credit_dst j) rfl rfl (dues c ks) rfl (W := W)
    (by
      rw [payload_send]; unfold back
      exact (owns_intro (c : Thread nD τ) (srcM j) fullShare fs).trans (exists_intro (Φ := fun X => owns (c : Thread nD τ) (srcM j) fullShare X) _))
    (by
      rw [payload_recv]; unfold landed got
      rw [tgt_tgt, ← hfs]
      refine (owns_intro (tgt j c : Thread nD τ) (dstM j) fullShare _).trans (Entails.of_eq ?_)
      rw [View.read_write_univ])) $$ [Hs Hd HO HtS HtV]
  · isplitr; · iapply (records_inv x K (c, some (false, j))); iexact HR
    isplitr; · iapply (records_inv x K (tgt j c, some (true, j))); iexact HR
    isplitl [Hs]; · iexact Hs
    isplitl [Hd]; · iexact Hd
    isplitl [HO]; · iexact HO
    isplitl [HtS]; · iexact HtS
    isplitr; · iapply (records_reached x K (c, some (false, j))); iexact HR
    isplitl [HtV]; · iexact HtV
    iapply (records_reached x K (tgt j c, some (true, j))); iexact HR
  iintro ⟨Hc, HO⟩
  iapply Hk
  isplitl [Hc]; · iexact Hc
  iexists W; iexact HO

end

end Cert.ScatterProof

end
-- ==== Proof.Body.lean ====
/-
# What one device runs

The whole kernel body on device `c`, from the ghost state and the buffers it starts with to its result: two barrier
signals, six transfers, the sums and the normalisation, one rule per operation in program order.
-/
module

public import proofs.«01_k».proof.Proof.Steps

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The devices the program addresses -/

theorem dev1_eq (c : Dev nD) : (⟨k0_dev1 c, k0_dev1_lt c⟩ : Dev nD) = q1 c := Fin.ext (by revert c; decide +kernel)
theorem dev2_eq (c : Dev nD) : (⟨k0_dev2 c, k0_dev2_lt c⟩ : Dev nD) = q3 c := Fin.ext (by revert c; decide +kernel)
theorem dev3_eq (c : Dev nD) : (⟨k0_dev3 c, k0_dev3_lt c⟩ : Dev nD) = tgt 0 c := Fin.ext (by revert c; decide +kernel)
theorem dev4_eq (c : Dev nD) : (⟨k0_dev4 c, k0_dev4_lt c⟩ : Dev nD) = tgt 1 c := Fin.ext (by revert c; decide +kernel)
theorem dev5_eq (c : Dev nD) : (⟨k0_dev5 c, k0_dev5_lt c⟩ : Dev nD) = tgt 2 c := Fin.ext (by revert c; decide +kernel)
theorem dev6_eq (c : Dev nD) : (⟨k0_dev6 c, k0_dev6_lt c⟩ : Dev nD) = tgt 3 c := Fin.ext (by revert c; decide +kernel)
theorem dev7_eq (c : Dev nD) : (⟨k0_dev7 c, k0_dev7_lt c⟩ : Dev nD) = tgt 4 c := Fin.ext (by revert c; decide +kernel)
theorem dev8_eq (c : Dev nD) : (⟨k0_dev8 c, k0_dev8_lt c⟩ : Dev nD) = tgt 5 c := Fin.ext (by revert c; decide +kernel)

/-! ## What the body starts with and ends with -/

/-- Six facts, one for each transfer. -/
def six (Φ : Fin 6 → sProp 𝕄) : sProp 𝕄 := iprop(Φ 0 ∗ Φ 1 ∗ Φ 2 ∗ Φ 3 ∗ Φ 4 ∗ Φ 5)

/-- A block of device `c` that no transfer touches, at any contents. -/
def some' {e : EltTy} (M : Memref sig .tc .vmem S512x256 e) (c : Dev nD) : sProp 𝕄 :=
  iprop(∃ X, owns (c : Thread nD τ) M fullShare X)

/-- Device `c`'s scratch: the six sources, the six landing buffers, the four working blocks. -/
def bufs (c : Dev nD) : sProp 𝕄 :=
  iprop(six (fun k => back k c) ∗ six (fun k => free k c)
    ∗ some' (Memref.whole cc0_scratch8) c ∗ some' (Memref.whole cc0_scratch9) c
    ∗ some' (Memref.whole cc0_scratch10) c ∗ some' (Memref.whole cc0_scratch11) c)

/-- Device `c`'s ghost state: the round of each of its counters, the tokens for what it pays, the credits it waits with. -/
def ghost (c : Dev nD) : sProp 𝕄 :=
  iprop((atPos ER (barCell c) 0 ∅ 0 ∗ six (fun k => atPos ER (sendCell k c) 0 ∅ 0) ∗ six (fun k => atPos ER (recvCell k c) 0 ∅ 0))
    ∗ (dutyTok ER (barCell (q1 c)) 0 false ∗ dutyTok ER (barCell (q3 c)) 0 true
      ∗ six (fun k => dutyTok ER (sendCell k c) 0 false) ∗ six (fun k => dutyTok ER (recvCell k (tgt k c)) 0 false))
    ∗ (cred (tallyAt (barCell c) () 2) ∗ six (fun k => cred (tallyAt (recvCell k c) () N))))

/-- Device `c`'s counters, all at zero. -/
def zeros (c : Dev nD) : sProp 𝕄 :=
  iprop(semVal (barCell c) 0 ∗ six (fun k => semVal (sendCell k c) 0) ∗ six (fun k => semVal (recvCell k c) 0))

variable (x : Dev nD → Vec F S1x2048x512 .bf16) (K : Dev nD × CK → ℕ)

set_option maxHeartbeats 4000000 in
/-- The body runs from all that to the counters at zero, the scratch free, nothing owed, the arguments as they were
    and the result in its staging buffer. -/
theorem sound_body (c : Dev nD) (g : Vec F S512 .bf16) (o : Vec F S512x512 .f32) (Kt : PUnit → sProp 𝕄) :
    iprop(records x K ∗ ghost c ∗ bufs c ∗ owing c (O₀ c)
        ∗ (((c : Thread nD τ).loc cc0_stg0_0) ↦{fullShare} x c) ∗ (((c : Thread nD τ).loc cc0_stg1_0) ↦{fullShare} g)
        ∗ (((c : Thread nD τ).loc cc0_stg2_0) ↦{fullShare} o)
        ∗ ((zeros c ∗ bufs c ∗ owing c 0
            ∗ (((c : Thread nD τ).loc cc0_stg0_0) ↦{fullShare} x c) ∗ (((c : Thread nD τ).loc cc0_stg1_0) ↦{fullShare} g)
            ∗ (((c : Thread nD τ).loc cc0_stg2_0) ↦{fullShare} outAt x g c)) -∗ Kt ⟨⟩))
      ⊢ WP c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) cc0_scratch12 cc0_scratch13) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId]
  unfold ghost bufs six some' back
  iintro ⟨#HR, ⟨⟨HpB, ⟨HpS0, HpS1, HpS2, HpS3, HpS4, HpS5⟩, HpV0, HpV1, HpV2, HpV3, HpV4, HpV5⟩,
      ⟨HtB1, HtB3, ⟨HtS0, HtS1, HtS2, HtS3, HtS4, HtS5⟩, HtV0, HtV1, HtV2, HtV3, HtV4, HtV5⟩, HcB, HcV0, HcV1, HcV2, HcV3, HcV4, HcV5⟩,
    ⟨⟨⟨%b0, B0⟩, ⟨%b1, B1⟩, ⟨%b2, B2⟩, ⟨%b3, B3⟩, ⟨%b4, B4⟩, ⟨%b5, B5⟩⟩, ⟨F0, F1, F2, F3, F4, F5⟩,
      ⟨%p8, P8⟩, ⟨%p9, P9⟩, ⟨%p10, P10⟩, ⟨%p11, P11⟩⟩, HO, Hx, Hg, Ho, Hk⟩
  -- the two signals, the landing buffers handed over, and the wait on the barrier
  unfold O₀
  iapply (wp_signal_bar (x := x) (K := K) c _ (q1 c) (dev1_eq c) false (O₁ c) rfl) $$ [HO HtB1 F0 F2 F5]
  · isplitr; · iexact HR
    isplitl [HO]; · iexact HO
    isplitl [HtB1]; · iexact HtB1
    unfold barPay; rw [q1_q1]
    isplitl [F0]; · iexact F0
    isplitl [F2]; · iexact F2
    iexact F5
  iintro HO
  unfold O₁
  iapply (wp_signal_bar (x := x) (K := K) c _ (q3 c) (dev2_eq c) true (dues c allK) rfl) $$ [HO HtB3 F1 F3 F4]
  · isplitr; · iexact HR
    isplitl [HO]; · iexact HO
    isplitl [HtB3]; · iexact HtB3
    unfold barPay; rw [q3_q3]
    isplitl [F1]; · iexact F1
    isplitl [F3]; · iexact F3
    iexact F4
  iintro HO
  -- the first two blocks to send
  iapply (wp_load 𝒱₀ (c : Thread nD τ) none Set.univ (m := xM) (Finset.subset_univ _)) $$ Hx; iintro Hx
  iapply (wp_load_slot c (Memref.whole cc0_scratch0) 0 in0 _) $$ B0; iintro B0
  iapply (wp_store_slot c (Memref.whole cc0_scratch0) 0 in0 _ _) $$ B0; iintro B0
  iapply (wp_load 𝒱₀ (c : Thread nD τ) none Set.univ (m := xM) (Finset.subset_univ _)) $$ Hx; iintro Hx
  iapply (wp_load_slot c (Memref.whole cc0_scratch1) 0 in0 _) $$ B1; iintro B1
  iapply (wp_store_slot c (Memref.whole cc0_scratch1) 0 in0 _ _) $$ B1; iintro B1
  iapply (wp_take_bar (x := x) (K := K) c (dues c allK) (above_dues c allK (by decide)) rfl) $$ [HcB HO HpB]
  · isplitr; · iexact HR
    isplitl [HcB]; · iexact HcB
    isplitl [HO]; · iexact HO
    iexact HpB
  unfold barPay
  iintro ⟨HO, HzB, ⟨F0, F2, F5⟩, F1, F3, F4⟩
  -- the first two transfers
  iapply (wp_transfer (x := x) (K := K) c _ 0 (dev3_eq c) [1, 2, 3, 4, 5] rfl rfl rfl rfl rfl) $$ [B0 F0 HO HtS0 HtV0]
  · isplitr; · iexact HR
    isplitl [B0]; · iexact B0
    isplitl [F0]; · iexact F0
    isplitl [HO]; · iexact HO
    isplitl [HtS0]; · iexact HtS0
    iexact HtV0
  iintro ⟨HcS0, HO⟩
  iapply (wp_transfer (x := x) (K := K) c _ 1 (dev4_eq c) [2, 3, 4, 5] rfl rfl rfl rfl rfl) $$ [B1 F1 HO HtS1 HtV1]
  · isplitr; · iexact HR
    isplitl [B1]; · iexact B1
    isplitl [F1]; · iexact F1
    isplitl [HO]; · iexact HO
    isplitl [HtS1]; · iexact HtS1
    iexact HtV1
  iintro ⟨HcS1, HO⟩
  -- the next two blocks, and their transfers
  iapply (wp_load 𝒱₀ (c : Thread nD τ) none Set.univ (m := xM) (Finset.subset_univ _)) $$ Hx; iintro Hx
  iapply (wp_load_slot c (Memref.whole cc0_scratch0) 1 in1 _) $$ B2; iintro B2
  iapply (wp_store_slot c (Memref.whole cc0_scratch0) 1 in1 _ _) $$ B2; iintro B2
  iapply (wp_load 𝒱₀ (c : Thread nD τ) none Set.univ (m := xM) (Finset.subset_univ _)) $$ Hx; iintro Hx
  iapply (wp_load_slot c (Memref.whole cc0_scratch1) 1 in1 _) $$ B3; iintro B3
  iapply (wp_store_slot c (Memref.whole cc0_scratch1) 1 in1 _ _) $$ B3; iintro B3
  iapply (wp_transfer (x := x) (K := K) c _ 2 (dev5_eq c) [3, 4, 5] rfl rfl rfl rfl rfl) $$ [B2 F2 HO HtS2 HtV2]
  · isplitr; · iexact HR
    isplitl [B2]; · iexact B2
    isplitl [F2]; · iexact F2
    isplitl [HO]; · iexact HO
    isplitl [HtS2]; · iexact HtS2
    iexact HtV2
  iintro ⟨HcS2, HO⟩
  iapply (wp_transfer (x := x) (K := K) c _ 3 (dev6_eq c) [4, 5] rfl rfl rfl rfl rfl) $$ [B3 F3 HO HtS3 HtV3]
  · isplitr; · iexact HR
    isplitl [B3]; · iexact B3
    isplitl [F3]; · iexact F3
    isplitl [HO]; · iexact HO
    isplitl [HtS3]; · iexact HtS3
    iexact HtV3
  iintro ⟨HcS3, HO⟩
  -- the own parts of the last two transfers
  iapply (wp_load 𝒱₀ (c : Thread nD τ) none Set.univ (m := xM) (Finset.subset_univ _)) $$ Hx; iintro Hx
  iapply (wp_load_full c (Memref.whole cc0_scratch8) _) $$ P8; iintro P8
  iapply (wp_store_full c (Memref.whole cc0_scratch8) _ _) $$ P8; iintro P8
  iapply (wp_load 𝒱₀ (c : Thread nD τ) none Set.univ (m := xM) (Finset.subset_univ _)) $$ Hx; iintro Hx
  iapply (wp_load_full c (Memref.whole cc0_scratch9) _) $$ P9; iintro P9
  iapply (wp_store_full c (Memref.whole cc0_scratch9) _ _) $$ P9; iintro P9
  -- the left half: what came first, added, goes on
  iapply (wp_take_recv (x := x) (K := K) c 0 (dues c [4, 5]) (above_dues c [4, 5] (by decide)) rfl (credit_dst 0)) $$ [HcV0 HO HpV0]
  · isplitr; · iexact HR
    isplitl [HcV0]; · iexact HcV0
    isplitl [HO]; · iexact HO
    iexact HpV0
  iintro ⟨HO, HzV0, F0⟩
  unfold landed
  iapply (wp_load_full c (Memref.whole cc0_scratch8) _) $$ P8; iintro P8
  iapply (wp_load_slot c (Memref.whole cc0_scratch2) 0 in0 _) $$ F0; iintro F0
  iapply (wp_load_full c (Memref.whole cc0_scratch4) _) $$ B4; iintro B4
  iapply (wp_store_full c (Memref.whole cc0_scratch4) _ _) $$ B4; iintro B4
  iapply (wp_transfer (x := x) (K := K) c _ 4 (dev7_eq c) [5] rfl rfl rfl rfl rfl) $$ [B4 F4 HO HtS4 HtV4]
  · isplitr; · iexact HR
    isplitl [B4]; · iexact B4
    isplitl [F4]; · iexact F4
    isplitl [HO]; · iexact HO
    isplitl [HtS4]; · iexact HtS4
    iexact HtV4
  iintro ⟨HcS4, HO⟩
  -- the right half likewise
  iapply (wp_take_recv (x := x) (K := K) c 1 (dues c [5]) (above_dues c [5] (by decide)) rfl (credit_dst 1)) $$ [HcV1 HO HpV1]
  · isplitr; · iexact HR
    isplitl [HcV1]; · iexact HcV1
    isplitl [HO]; · iexact HO
    iexact HpV1
  iintro ⟨HO, HzV1, F1⟩
  unfold landed
  iapply (wp_load_full c (Memref.whole cc0_scratch9) _) $$ P9; iintro P9
  iapply (wp_load_slot c (Memref.whole cc0_scratch3) 0 in0 _) $$ F1; iintro F1
  iapply (wp_load_full c (Memref.whole cc0_scratch5) _) $$ B5; iintro B5
  iapply (wp_store_full c (Memref.whole cc0_scratch5) _ _) $$ B5; iintro B5
  iapply (wp_transfer (x := x) (K := K) c _ 5 (dev8_eq c) [] rfl rfl rfl rfl rfl) $$ [B5 F5 HO HtS5 HtV5]
  · isplitr; · iexact HR
    isplitl [B5]; · iexact B5
    isplitl [F5]; · iexact F5
    isplitl [HO]; · iexact HO
    isplitl [HtS5]; · iexact HtS5
    iexact HtV5
  iintro ⟨HcS5, HO⟩
  -- the device's own rows and what came straight from the neighbours
  iapply (wp_take_recv (x := x) (K := K) c 2 0 (above_zero _) rfl (credit_dst 2)) $$ [HcV2 HO HpV2]
  · isplitr; · iexact HR
    isplitl [HcV2]; · iexact HcV2
    isplitl [HO]; · iexact HO
    iexact HpV2
  iintro ⟨HO, HzV2, F2⟩
  unfold landed
  iapply (wp_load 𝒱₀ (c : Thread nD τ) none Set.univ (m := xM) (Finset.subset_univ _)) $$ Hx; iintro Hx
  iapply (wp_load_slot c (Memref.whole cc0_scratch2) 1 in1 _) $$ F2; iintro F2
  iapply (wp_load_full c (Memref.whole cc0_scratch10) _) $$ P10; iintro P10
  iapply (wp_store_full c (Memref.whole cc0_scratch10) _ _) $$ P10; iintro P10
  iapply (wp_take_recv (x := x) (K := K) c 3 0 (above_zero _) rfl (credit_dst 3)) $$ [HcV3 HO HpV3]
  · isplitr; · iexact HR
    isplitl [HcV3]; · iexact HcV3
    isplitl [HO]; · iexact HO
    iexact HpV3
  iintro ⟨HO, HzV3, F3⟩
  unfold landed
  iapply (wp_load 𝒱₀ (c : Thread nD τ) none Set.univ (m := xM) (Finset.subset_univ _)) $$ Hx; iintro Hx
  iapply (wp_load_slot c (Memref.whole cc0_scratch3) 1 in1 _) $$ F3; iintro F3
  iapply (wp_load_full c (Memref.whole cc0_scratch11) _) $$ P11; iintro P11
  iapply (wp_store_full c (Memref.whole cc0_scratch11) _ _) $$ P11; iintro P11
  -- what came round, and the result
  iapply (wp_take_recv (x := x) (K := K) c 4 0 (above_zero _) rfl (credit_dst 4)) $$ [HcV4 HO HpV4]
  · isplitr; · iexact HR
    isplitl [HcV4]; · iexact HcV4
    isplitl [HO]; · iexact HO
    iexact HpV4
  iintro ⟨HO, HzV4, F4⟩
  unfold landed
  iapply (wp_load_full c (Memref.whole cc0_scratch10) _) $$ P10; iintro P10
  iapply (wp_load_full c (Memref.whole cc0_scratch6) _) $$ F4; iintro F4
  iapply (wp_take_recv (x := x) (K := K) c 5 0 (above_zero _) rfl (credit_dst 5)) $$ [HcV5 HO HpV5]
  · isplitr; · iexact HR
    isplitl [HcV5]; · iexact HcV5
    isplitl [HO]; · iexact HO
    iexact HpV5
  iintro ⟨HO, HzV5, F5⟩
  unfold landed
  iapply (wp_load_full c (Memref.whole cc0_scratch11) _) $$ P11; iintro P11
  iapply (wp_load_full c (Memref.whole cc0_scratch7) _) $$ F5; iintro F5
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := outRectL) (Mk := Finset.univ) (Finset.subset_univ _)) $$ Ho; iintro Ho
  iapply (wp_load 𝒱₀ (c : Thread nD τ) none Set.univ (m := gM) (Finset.subset_univ _)) $$ Hg; iintro Hg
  iapply (wp_load 𝒱₀ (c : Thread nD τ) none Set.univ (m := oM) (Finset.subset_univ _)) $$ Ho; iintro Ho
  iapply (wp_store 𝒱₀ (c : Thread nD τ) none Set.univ (m := oM) (r := outRectR) (Mk := Finset.univ) (Finset.subset_univ _)) $$ Ho; iintro Ho
  rw [write_out]
  -- the sources come back
  iapply (wp_take_send (x := x) (K := K) c 0 rfl (credit_src 0)) $$ [HcS0 HO HpS0]
  · isplitr; · iexact HR
    isplitl [HcS0]; · iexact HcS0
    isplitl [HO]; · iexact HO
    iexact HpS0
  iintro ⟨HO, HzS0, B0⟩
  iapply (wp_take_send (x := x) (K := K) c 1 rfl (credit_src 1)) $$ [HcS1 HO HpS1]
  · isplitr; · iexact HR
    isplitl [HcS1]; · iexact HcS1
    isplitl [HO]; · iexact HO
    iexact HpS1
  iintro ⟨HO, HzS1, B1⟩
  iapply (wp_take_send (x := x) (K := K) c 2 rfl (credit_src 2)) $$ [HcS2 HO HpS2]
  · isplitr; · iexact HR
    isplitl [HcS2]; · iexact HcS2
    isplitl [HO]; · iexact HO
    iexact HpS2
  iintro ⟨HO, HzS2, B2⟩
  iapply (wp_take_send (x := x) (K := K) c 3 rfl (credit_src 3)) $$ [HcS3 HO HpS3]
  · isplitr; · iexact HR
    isplitl [HcS3]; · iexact HcS3
    isplitl [HO]; · iexact HO
    iexact HpS3
  iintro ⟨HO, HzS3, B3⟩
  iapply (wp_take_send (x := x) (K := K) c 4 rfl (credit_src 4)) $$ [HcS4 HO HpS4]
  · isplitr; · iexact HR
    isplitl [HcS4]; · iexact HcS4
    isplitl [HO]; · iexact HO
    iexact HpS4
  iintro ⟨HO, HzS4, B4⟩
  iapply (wp_take_send (x := x) (K := K) c 5 rfl (credit_src 5)) $$ [HcS5 HO HpS5]
  · isplitr; · iexact HR
    isplitl [HcS5]; · iexact HcS5
    isplitl [HO]; · iexact HO
    iexact HpS5
  iintro ⟨HO, HzS5, B5⟩
  unfold WP; rw [wp_ret]; imodintro
  iapply Hk
  unfold zeros six back free
  isplitl [HzB HzS0 HzS1 HzS2 HzS3 HzS4 HzS5 HzV0 HzV1 HzV2 HzV3 HzV4 HzV5]
  · isplitl [HzB]; · iexact HzB
    isplitl [HzS0 HzS1 HzS2 HzS3 HzS4 HzS5]
    · isplitl [HzS0]; · iexact HzS0
      isplitl [HzS1]; · iexact HzS1
      isplitl [HzS2]; · iexact HzS2
      isplitl [HzS3]; · iexact HzS3
      isplitl [HzS4] <;> iassumption
    · isplitl [HzV0]; · iexact HzV0
      isplitl [HzV1]; · iexact HzV1
      isplitl [HzV2]; · iexact HzV2
      isplitl [HzV3]; · iexact HzV3
      isplitl [HzV4] <;> iassumption
  isplitl [B0 B1 B2 B3 B4 B5 F0 F1 F2 F3 F4 F5 P8 P9 P10 P11]
  · isplitl [B0 B1 B2 B3 B4 B5]
    · isplitl [B0]; · iexact B0
      isplitl [B1]; · iexact B1
      isplitl [B2]; · iexact B2
      isplitl [B3]; · iexact B3
      isplitl [B4] <;> iassumption
    isplitl [F0 F1 F2 F3 F4 F5]
    · isplitl [F0]; · iexists _; iexact F0
      isplitl [F1]; · iexists _; iexact F1
      isplitl [F2]; · iexists _; iexact F2
      isplitl [F3]; · iexists _; iexact F3
      isplitl [F4]; · iexists _; iexact F4
      iexists _; iexact F5
    isplitl [P8]; · iexists _; iexact P8
    isplitl [P9]; · iexists _; iexact P9
    isplitl [P10]; · iexists _; iexact P10
    iexists _; iexact P11
  isplitl [HO]; · iexact HO
  isplitl [Hx]; · iexact Hx
  isplitl [Hg]; · iexact Hg
  iexact Ho

end Cert.ScatterProof

end
-- ==== Proof.Deal.lean ====
/-
# The ghost state dealt out

At launch the rounds' ghost state is minted, the tokens of the duties are dealt to the devices that pay them, the
counters at zero become invariants every device may open, and the credits a device waits with are what the others owe it.
-/
module

public import proofs.«01_k».proof.Proof.Body

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Finite conjunctions, one by one -/

/-- Separating conjunction is associative. -/
theorem assoc_eq (P Q R : sProp 𝕄) : iprop((P ∗ Q) ∗ R) = iprop(P ∗ Q ∗ R) := equiv_iff.mp ⟨BI.sep_assoc, BI.sep_assoc'⟩

/-- Over a device's counters. -/
theorem sep_counters (Φ : CK → sProp 𝕄) :
    bigSep Finset.univ Φ = iprop(Φ none ∗ six (fun k => Φ (some (false, k))) ∗ six (fun k => Φ (some (true, k)))) := by
  rw [bigSep_univ_eq_bigSepL [none, some (false, 0), some (false, 1), some (false, 2), some (false, 3), some (false, 4), some (false, 5),
    some (true, 0), some (true, 1), some (true, 2), some (true, 3), some (true, 4), some (true, 5)] (by decide) (by decide)]
  simp only [six, assoc_eq]
  rfl

/-- The duties of a device's counters: a barrier's two, one of each send and of each receive. -/
abbrev TK : Type := Bool × Option (Fin 6)

/-- Over a device's duties. -/
theorem sep_duties (Φ : TK → sProp 𝕄) :
    bigSep Finset.univ Φ = iprop(Φ (false, none) ∗ Φ (true, none) ∗ six (fun k => Φ (false, some k)) ∗ six (fun k => Φ (true, some k))) := by
  rw [bigSep_univ_eq_bigSepL [(false, none), (true, none), (false, some 0), (false, some 1), (false, some 2), (false, some 3), (false, some 4),
    (false, some 5), (true, some 0), (true, some 1), (true, some 2), (true, some 3), (true, some 4), (true, some 5)] (by decide) (by decide)]
  simp only [six, assoc_eq]
  rfl

/-! ## The counters and the duties -/

theorem rS_ne_sS (j k : Fin 6) : rS j ≠ sS k := fun h => by
  have h1 := congrArg Fin.val h
  have hj := j.isLt; have hk := k.isLt
  have h2 : 9 + j.val = 3 + k.val := h1
  omega

theorem csem_injective : Function.Injective csem := by decide

theorem kcell_injective : Function.Injective kcell := by
  rintro ⟨c, i⟩ ⟨c', i'⟩ h
  have h1 : c = c' := congrArg (fun g : GSem nD τ sig => g.1.1) h
  have h2 : i = i' := csem_injective (congrArg Prod.snd h)
  rw [h1, h2]

/-- Which counter a duty belongs to, and under which name. -/
abbrev ckOf : TK → CK × Bool
  | (d, none) => (none, d) | (false, some k) => (some (false, k), false) | (true, some k) => (some (true, k), false)
theorem ckOf_injective : Function.Injective ckOf := by decide

abbrev tokAt (ct : Dev nD × TK) : GSem nD τ sig × ℕ × Bool := (kcell (ct.1, (ckOf ct.2).1), 0, (ckOf ct.2).2)
theorem tokAt_injective : Function.Injective tokAt := by
  rintro ⟨c, t⟩ ⟨c', t'⟩ h
  have h1 := kcell_injective (congrArg Prod.fst h)
  have h2 : (ckOf t).2 = (ckOf t').2 := congrArg (fun p : GSem nD τ sig × ℕ × Bool => p.2.2) h
  have h3 : t = t' := ckOf_injective (Prod.ext (congrArg Prod.snd h1) h2)
  rw [show c = c' from congrArg Prod.fst h1, h3]

/-- Whose counter device `c` pays the duty at: a partner's barrier, its own send, the receive where its transfer goes. -/
def turn : TK → Dev nD → Dev nD
  | (false, none), c => q1 c | (true, none), c => q3 c | (false, some _), c => c | (true, some k), c => tgt k c
theorem turn_turn (t : TK) (c : Dev nD) : turn t (turn t c) = c := by
  rcases t with ⟨_ | _, _ | k⟩
  · exact q1_q1 c
  · rfl
  · exact q3_q3 c
  · exact tgt_tgt k c

/-- The duties, exchanged between payer and owner. -/
def deal : Dev nD × TK ≃ Dev nD × TK where
  toFun ct := (turn ct.2 ct.1, ct.2)
  invFun ct := (turn ct.2 ct.1, ct.2)
  left_inv ct := by simp only [turn_turn]
  right_inv ct := by simp only [turn_turn]

def allCells : Finset (GSem nD τ sig) := Finset.univ.map ⟨kcell, kcell_injective⟩
def allToks : Finset (GSem nD τ sig × ℕ × Bool) := Finset.univ.map ⟨tokAt, tokAt_injective⟩

/-- The ghost state at launch: the pipeline's and the exchange's. -/
def u₀ : UU :=
  (initOf (Pipeline.cells cfgs cellOf_inj) (Pipeline.launchToks cfgs cellOf_inj), initOf allCells allToks)

variable (x : Dev nD → Vec F S1x2048x512 .bf16)

/-- The tokens device `c` pays with. -/
def payToks (c : Dev nD) : sProp 𝕄 :=
  bigSep Finset.univ fun t : TK => dutyTok ER (kcell (turn t c, (ckOf t).1)) 0 (ckOf t).2

/-- What is dealt to device `c`: its counters' rounds, its positions in them, and its tokens. -/
def G (c : Dev nD) : sProp 𝕄 :=
  iprop((bigSep Finset.univ fun i : CK => roundState ER (rd x) (kcell (c, i)) 0) ∗ (bigSep Finset.univ fun i : CK => atPos ER (kcell (c, i)) 0 ∅ 0)
    ∗ (bigSep Finset.univ fun i : CK => reached ER (kcell (c, i)) 0) ∗ payToks c)

theorem fund_all : BI.own (ER (initOf allCells allToks)) ⊢ (|==> bigSep Finset.univ (G x) : sProp 𝕄) := by
  have hC (Φ : GSem nD τ sig → sProp 𝕄) :
      bigSep allCells Φ = bigSep Finset.univ fun c : Dev nD => bigSep Finset.univ fun i : CK => Φ (kcell (c, i)) := by
    unfold allCells; rw [bigSep_map, bigSep_univ_prod]; rfl
  have hT : bigSep allToks (fun p => (dutyTok ER p.1 p.2.1 p.2.2 : sProp 𝕄)) = bigSep Finset.univ fun c : Dev nD => payToks c := by
    unfold allToks payToks
    rw [bigSep_map, bigSep_univ_equiv deal, bigSep_univ_prod]; rfl
  iintro HX
  imod (Rounds.fund ER (rd x) allCells allToks) $$ HX with ⟨Hst, Hr, Hat, Htok⟩
  imodintro
  ihave Hst := (Entails.of_eq (hC fun g => roundState ER (rd x) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## The counters at launch and at the end -/

/-- A device's own counters and its barrier at zero are its thirteen counters at zero. -/
theorem ownSems0_eq (c : Dev nD) : (Pipeline.ownSems0 (Ix := Unit) (Name := ℕ) (U := UU) (Lvl := ℕ) (Val := Elt F) (τ := τ) osem c : sProp 𝕄)
    = iprop(six (fun k => semVal (sendCell k c) 0) ∗ six (fun k => semVal (recvCell k c) 0)) := by
  rw [Pipeline.ownSems0_eq_of_list c osem [0, 1, 2, 3, 4, 5, 6, 7, 8, 9, 10, 11] (by decide) (by decide)]
  simp only [six, assoc_eq]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_of_sems (c : Dev nD) :
    iprop(Pipeline.ownSems0 (Ix := Unit) (Name := ℕ) (U := UU) (Lvl := ℕ) (Val := Elt F) (τ := τ) osem c ∗ unscopedSems0 c)
      ⊢ (zeros c : sProp 𝕄) := by
  rw [ownSems0_eq, unscopedSems0_eq]; unfold zeros
  iintro ⟨⟨HS, HV⟩, HB⟩
  isplitl [HB]; · iexact HB
  isplitl [HS] <;> iassumption
theorem sems_of_zeros (c : Dev nD) :
    (zeros c : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq]; unfold zeros
  iintro ⟨HB, HS, HV⟩
  isplitl [HB]; · iexact HB
  isplitl [HS] <;> iassumption
theorem zeros_eq (c : Dev nD) : (zeros c : sProp 𝕄) = bigSep Finset.univ fun i : CK => semVal (kcell (c, i)) 0 := by
  rw [sep_counters]; rfl

/-! ## The invariants -/

/-- Every counter's invariant, under the names `K`, and that every counter has reached its round. -/
def shared (K : Dev nD × CK → ℕ) : sProp 𝕄 :=
  iprop((bigSep Finset.univ fun ck => cellInv ER (rd x) (K ck) (kcell ck)) ∗ (bigSep Finset.univ fun ck => reached ER (kcell ck) 0))
instance shared_persistent (K : Dev nD × CK → ℕ) : BI.Persistent (shared x K) := by unfold shared; infer_instance

/-- A device's positions and tokens. -/
def mine (c : Dev nD) : sProp 𝕄 := iprop((bigSep Finset.univ fun i : CK => atPos ER (kcell (c, i)) 0 ∅ 0) ∗ payToks c)

/-- What device `c` starts from. -/
def G' (c : Dev nD) : sProp 𝕄 := iprop(∃ K, shared x K ∗ mine c)

/-- On one device: the counters at zero and their rounds become invariants. -/
theorem alloc_one (c : Dev nD) :
    iprop(Pipeline.ownSems0 (Ix := Unit) (Name := ℕ) (U := UU) (Lvl := ℕ) (Val := Elt F) (τ := τ) osem c ∗ unscopedSems0 c ∗ G x c)
      ⊢ |={Set.univ}=> iprop((bigSep Finset.univ fun i : CK => iprop(∃ κ : ℕ, cellInv ER (rd x) κ (kcell (c, i))))
          ∗ (bigSep Finset.univ fun i : CK => reached ER (kcell (c, i)) 0) ∗ mine c) := by
  unfold G mine
  iintro ⟨Hos, Hus, Hst, Hat, Hr, Htok⟩
  ihave Hv := (zeros_of_sems (F := F) c) $$ [Hos Hus]
  · isplitl [Hos] <;> iassumption
  ihave Hv := (Entails.of_eq (zeros_eq (F := F) c)) $$ Hv
  imod (show iprop((bigSep Finset.univ fun i : CK => semVal (kcell (c, i)) 0) ∗ bigSep Finset.univ fun i : CK => roundState ER (rd x) (kcell (c, i)) 0)
      ⊢ (|={Set.univ}=> bigSep Finset.univ fun i : CK => iprop(∃ κ : ℕ, cellInv ER (rd x) κ (kcell (c, i))) : sProp 𝕄) from by
        rw [← bigSep_sep']
        exact (bigSep_mono fun i _ => (Rounds.body_intro ER (rd x) (kcell (c, i))).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

/-- Then every device may open every invariant. -/
theorem share_out :
    (bigSep Finset.univ fun c : Dev nD => iprop((bigSep Finset.univ fun i : CK => iprop(∃ κ : ℕ, cellInv ER (rd x) κ (kcell (c, i))))
          ∗ (bigSep Finset.univ fun i : CK => reached ER (kcell (c, i)) 0) ∗ mine c) : sProp 𝕄)
      ⊢ bigSep Finset.univ (G' x) := by
  rw [bigSep_sep', bigSep_sep', ← bigSep_univ_prod (fun ck : Dev nD × CK => iprop(∃ κ : ℕ, cellInv ER (rd x) κ (kcell ck))),
    ← bigSep_univ_prod (fun ck : Dev nD × CK => (reached ER (kcell ck) 0 : sProp 𝕄))]
  iintro ⟨HI, #HR, Hm⟩
  ihave HK := (BI.bigSep_exists_pi Finset.univ (fun (ck : Dev nD × CK) (κ : ℕ) => (cellInv ER (rd x) κ (kcell ck) : sProp 𝕄))) $$ HI
  icases HK with ⟨%K, #HI⟩
  have h : iprop(shared x K ∗ bigSep Finset.univ fun c : Dev nD => mine c) ⊢ bigSep Finset.univ (G' x) := by
    refine BI.bigSep_with_persistent fun c _ => ?_
    unfold G'
    exact exists_intro (Φ := fun K => iprop(shared x K ∗ mine c)) K
  iapply h
  isplitr
  · unfold shared; isplitl; · iexact HI
    iexact HR
  iexact Hm

/-- All devices at once. -/
theorem glob : (bigSep Finset.univ fun c => iprop(Pipeline.ownSems0 (Ix := Unit) (Name := ℕ) (U := UU) (Lvl := ℕ) (Val := Elt F) (τ := τ) osem c ∗ unscopedSems0 c ∗ G x c) : sProp 𝕄)
    ⊢ |={Set.univ}=> bigSep Finset.univ (G' x) :=
  ((bigSep_mono fun c _ => alloc_one x c).trans (bigSep_fupd _ _)).trans (BI.fupd_mono (share_out x))

/-! ## The credits -/

/-- What all devices owe a counter of `c` through one duty each, if the payers are exchanged in pairs. -/
theorem sum_tally (f : Dev nD → Dev nD) (hf : ∀ c, f (f c) = c) (sm sm' : SemLoc sig) (a : ℕ) (c : Dev nD) :
    (∑ d : Dev nD, (tallyAt ((f d : Thread nD τ), sm) () a : CellTallies nD τ sig Unit) ((c : Thread nD τ), sm') ()) = if sm' = sm then a else 0 := by
  by_cases h : sm' = sm
  · subst h
    rw [if_pos rfl, Finset.sum_eq_single (f c)]
    · rw [tallyAt_apply, hf, if_pos ⟨rfl, rfl⟩]
    · intro d _ hd
      rw [tallyAt_apply, if_neg]
      rintro ⟨h1, -⟩
      have h2 : c = f d := congrArg (fun g : GSem nD τ sig => g.1.1) h1
      exact hd (by rw [h2, hf])
    · exact fun h => absurd (Finset.mem_univ _) h
  · rw [if_neg h]
    refine Finset.sum_eq_zero fun d _ => ?_
    rw [tallyAt_apply, if_neg]
    rintro ⟨h1, -⟩
    exact h (congrArg Prod.snd h1)

/-- What all devices owe a counter of `c`. -/
theorem owed_all (c : Dev nD) (sm : SemLoc sig) : (∑ d : Dev nD, O₀ d ((c : Thread nD τ), sm) ())
    = (((((((if sm = .dma (rS 5) then N else 0) + (if sm = .dma (rS 4) then N else 0)) + (if sm = .dma (rS 3) then N else 0))
      + (if sm = .dma (rS 2) then N else 0)) + (if sm = .dma (rS 1) then N else 0)) + (if sm = .dma (rS 0) then N else 0))
      + (if sm = .reg barS then 1 else 0)) + (if sm = .reg barS then 1 else 0) := by
  unfold O₀ O₁ allK dues dues dues dues dues dues dues
  simp only [Pi.add_apply, Finsupp.add_apply, Finset.sum_add_distrib, sum_tally (tgt _) (tgt_tgt _), sum_tally q1 q1_q1, sum_tally q3 q3_q3]
  simp

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, owed_all]; rfl

theorem launch_recv (k : Fin 6) (c : Dev nD) :
    tallyOn (recvCell k c) (launchCredit (Pipeline.owing O₀) 0 (recvCell k c)) = (tallyAt (recvCell k c) () N : CellTallies nD τ sig Unit) := by
  unfold tallyAt; refine congrArg _ (Finsupp.ext fun u => ?_); cases u
  rw [Pipeline.launchCredit_owing, Finsupp.single_eq_same, owed_all]
  generalize N = n
  fin_cases k <;> simp [rS]

/-- A device's credits: two units of its barrier, a block for each receive. -/
theorem creds (c : Dev nD) :
    (Pipeline.launchCred O₀ c : sProp 𝕄) ⊢ iprop(cred (tallyAt (barCell c) () 2) ∗ six (fun k => cred (tallyAt (recvCell k c) () N))) := by
  unfold Pipeline.launchCred
  refine (bigSep_subset (Finset.subset_univ [SemLoc.reg barS, .dma (rS 0), .dma (rS 1), .dma (rS 2), .dma (rS 3), .dma (rS 4), .dma (rS 5)].toFinset)).trans ?_
  rw [bigSep_eq_bigSepL _ (by decide)]
  show iprop(cred (tallyOn (barCell c) _) ∗ cred (tallyOn (recvCell 0 c) _) ∗ cred (tallyOn (recvCell 1 c) _) ∗ cred (tallyOn (recvCell 2 c) _)
    ∗ cred (tallyOn (recvCell 3 c) _) ∗ cred (tallyOn (recvCell 4 c) _) ∗ cred (tallyOn (recvCell 5 c) _)) ⊢ _
  rw [launch_bar, launch_recv, launch_recv, launch_recv, launch_recv, launch_recv, launch_recv]
  exact BI.Entails.refl _

/-- A device's positions, tokens and credits, as its body takes them. -/
theorem ghost_intro (c : Dev nD) :
    iprop(mine c ∗ cred (tallyAt (barCell c) () 2) ∗ six (fun k => cred (tallyAt (recvCell k c) () N))) ⊢ (ghost c : sProp 𝕄) := by
  unfold mine payToks ghost
  rw [sep_counters, sep_duties]
  iintro ⟨⟨Hat, Htok⟩, Hc⟩
  isplitl [Hat]; · iexact Hat
  isplitl [Htok]; · iexact Htok
  iexact Hc

end Cert.ScatterProof

end
-- ==== Proof.Device.lean ====
/-
# A device's scratch, and what its launch hands its body

The scratch buffers as the launch gives them, whole and at any contents, are the blocks the body works on; the
staged arguments and result are whole arrays; so the body meets the launch's obligation.
-/
module

public import proofs.«01_k».proof.Proof.Deal

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Whole buffers -/

/-- Two assertions that entail each other are equal. -/
theorem eq_of_both {P Q : sProp 𝕄} (h : P ⊢ Q) (h' : Q ⊢ P) : P = Q := equiv_iff.mp ⟨h, h'⟩

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A buffer at any contents, either way it is said. -/
theorem any_eq (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole_eq]
  refine eq_of_both ?_ ?_
  · iintro ⟨%f, H⟩; iexists f; iexists f; isplitr; · (ipureintro; rfl)
    iexact H
  · iintro ⟨%X, %f, -, H⟩; iexists f; iexact H

/-- A buffer of two blocks at any contents is its two blocks at any contents. -/
theorem two_eq (c : Dev nD) (M : Memref sig .tc .vmem S2x512x256 .bf16)
    (hM : M.view.set = Finset.univ) :
    (iprop(∃ f : Buf (Elt F) (M.view.loc (c : Thread nD τ)), M.view.loc (c : Thread nD τ) ↦{fullShare} f) : sProp 𝕄)
      = iprop((∃ X, owns (c : Thread nD τ) (slotOf M 0 in0) fullShare X) ∗ ∃ X, owns (c : Thread nD τ) (slotOf M 1 in1) fullShare X) := by
  refine eq_of_both ?_ ?_
  · iintro ⟨%f, H⟩
    have h := two_split (F := F) c M f
    rw [hM] at h
    iapply h; iexact H
  · have h := two_join (F := F) c M
    rw [hM] at h; exact h

/-! ## The scratch -/

theorem scratch_eq (c : Dev nD) :
    (Pipeline.scopedRest (Ix := Unit) (Name := ℕ) (U := UU) (Lvl := ℕ) (Val := Elt F) spec0 c : sProp 𝕄) ⊣⊢ bufs c := by
  have h0 := two_eq (F := F) c (Memref.whole cc0_scratch0) (View.set_whole _)
  have h1 := two_eq (F := F) c (Memref.whole cc0_scratch1) (View.set_whole _)
  have h2 := two_eq (F := F) c (Memref.whole cc0_scratch2) (View.set_whole _)
  have h3 := two_eq (F := F) c (Memref.whole cc0_scratch3) (View.set_whole _)
  rw [scopedRest0_eq, any_eq c cc0_scratch4, any_eq c cc0_scratch5, any_eq c cc0_scratch6, any_eq c cc0_scratch7, any_eq c cc0_scratch8,
    any_eq c cc0_scratch9, any_eq c cc0_scratch10, any_eq c cc0_scratch11]
  unfold bufs six back free some'
  constructor
  · iintro ⟨H0, H1, H2, H3, H4, H5, H6, H7, H8⟩
    ihave H0 := (Entails.of_eq h0) $$ H0
    ihave H1 := (Entails.of_eq h1) $$ H1
    ihave H2 := (Entails.of_eq h2) $$ H2
    ihave H3 := (Entails.of_eq h3) $$ H3
    icases H0 with ⟨A0, A2⟩
    icases H1 with ⟨A1, A3⟩
    icases H2 with ⟨C0, C2⟩
    icases H3 with ⟨C1, C3⟩
    isplitl [A0 A1 A2 A3 H4 H5]
    · isplitl [A0]; · iexact A0
      isplitl [A1]; · iexact A1
      isplitl [A2]; · iexact A2
      isplitl [A3]; · iexact A3
      isplitl [H4]; · iexact H4
      iexact H5
    isplitl [C0 C1 C2 C3 H6 H7]
    · isplitl [C0]; · iexact C0
      isplitl [C1]; · iexact C1
      isplitl [C2]; · iexact C2
      isplitl [C3]; · iexact C3
      isplitl [H6]; · iexact H6
      iexact H7
    iexact H8
  · iintro ⟨⟨A0, A1, A2, A3, H4, H5⟩, ⟨C0, C1, C2, C3, H6, H7⟩, H8⟩
    isplitl [A0 A2]
    · iapply (Entails.of_eq h0.symm); isplitl [A0]; · iexact A0
      iexact A2
    isplitl [A1 A3]
    · iapply (Entails.of_eq h1.symm); isplitl [A1]; · iexact A1
      iexact A3
    isplitl [C0 C2]
    · iapply (Entails.of_eq h2.symm); isplitl [C0]; · iexact C0
      iexact C2
    isplitl [C1 C3]
    · iapply (Entails.of_eq h3.symm); isplitl [C1]; · iexact C1
      iexact C3
    isplitl [H4]; · iexact H4
    isplitl [H5]; · iexact H5
    isplitl [H6]; · iexact H6
    isplitl [H7]; · iexact H7
    iexact H8

/-! ## The pipeline's data -/

variable (m : (ℓ : Loc nD τ sig) → Buf (Elt F) ℓ) (ρ : Dev nD → PrngReg)

def s₀ : MemSt nD τ sig (Elt F) := ⟨m, fun _ => 0, ρ⟩

/-- Device `c`'s arguments. -/
def xs (c : Dev nD) : Vec F S1x2048x512 .bf16 := m ((c : Thread nD τ).loc main_arg0)
def gs (c : Dev nD) : Vec F S512 .bf16 := m ((c : Thread nD τ).loc main_arg1)
/-- Device `c`'s result. -/
def res (c : Dev nD) : Vec F S512x512 .f32 := outAt (xs m) (gs m c) c

/-- The one block of a window is the whole array. -/
theorem read_x (t : Fin cfg0.N) (X : Vec F S1x2048x512 .bf16) : (win0_0.blk t).view.read (Elt F) X = X :=
  Memref.readAt_unit_zero (Elt F) main_arg0 (funext fun a => Nat.zero_mul _) _ X
theorem read_g (t : Fin cfg0.N) (X : Vec F S512 .bf16) : (win0_1.blk t).view.read (Elt F) X = X :=
  Memref.readAt_unit_zero (Elt F) main_arg1 (funext fun a => Nat.zero_mul _) _ X
theorem read_o (t : Fin cfg0.N) (X : Vec F S512x512 .f32) : (win0_2.blk t).view.read (Elt F) X = X :=
  Memref.readAt_unit_zero (Elt F) main_v1 (funext fun a => Nat.zero_mul _) _ X

/-- What the body starts with and ends with, besides the staged arrays. -/
def Φ₀ (c : Dev nD) : sProp 𝕄 := iprop((∃ K, records (xs m) K ∗ ghost c) ∗ bufs c)
def Φ₁ (c : Dev nD) : sProp 𝕄 := iprop(zeros c ∗ bufs c)

def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xs m c
    | ⟨1, _⟩ => gs m c
    | ⟨2, _⟩ => res m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_x : (cfg0.win (0 : Fin 3)).fetch t0_0 = true := rfl
theorem fetch_g : (cfg0.win (1 : Fin 3)).fetch t0_0 = true := rfl

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def pre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def post (c : Dev nD) : sProp 𝕄 :=
  iprop(Φ₁ c ∗ (dats m ρ 0 c).owesAt () t0_0.succ ∗ stg c cc0_stg0_0 (xs m c) ∗ stg c cc0_stg1_0 (gs m c) ∗ stg c cc0_stg2_0 (res m c))

theorem before_x (c : Dev nD) (d) : (dats m ρ 0 c).before (0 : Fin 3) t0_0 d = xs m c := by
  unfold Pipeline.Dat.before; rw [if_pos fetch_x]; exact read_x t0_0 (xs m c)
theorem before_g (c : Dev nD) (d) : (dats m ρ 0 c).before (1 : Fin 3) t0_0 d = gs m c := by
  unfold Pipeline.Dat.before; rw [if_pos fetch_g]; exact read_g t0_0 (gs m c)

set_option maxRecDepth 4000 in
set_option maxHeartbeats 800000 in
theorem body_obligation (c : Dev nD) : Pipeline.BodyObligation (dats (F := F) m ρ 0 c) (defs₀ (F := F)) 𝒱₀ () Set.univ := fun t => by
  rw [fin_N0 t]
  rw [bigSep_W0, bigSep_W0]
  simp only [owns_whole_eq]
  show pre m ρ c ⊢ WP c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) (Memref.whole cc0_scratch8) (Memref.isWhole_whole _)
          (Memref.whole cc0_scratch9) (Memref.isWhole_whole _) (Memref.whole cc0_scratch10) (Memref.isWhole_whole _)
          (Memref.whole cc0_scratch11) (Memref.isWhole_whole _) cc0_scratch12 cc0_scratch13) (fun _ => post m ρ c)
  unfold pre Φ₀ Pipeline.Dat.owesAt Pipeline.owesWithin
  rw [show (dats m ρ 0 c).owed t0_0.castSucc = O₀ c from rfl]
  iintro ⟨⟨⟨%K, #HR, Hgh⟩, Hb⟩, ⟨%W, %hW, HO⟩, ⟨%d0, %f0, %h0, Hx⟩, ⟨%d1, %f1, %h1, Hg⟩, ⟨%d2, %f2, %h2, Ho⟩⟩
  rw [before_x] at h0; rw [before_g] at h1; subst h0; subst h1
  iapply (sound_body (xs m) K c (gs m c) f2 (fun _ => post m ρ c))
  isplitr; · iexact HR
  isplitl [Hgh]; · iexact Hgh
  isplitl [Hb]; · iexact Hb
  isplitl [HO]; · unfold owing; iexists W; iexact HO
  isplitl [Hx]; · iexact Hx
  isplitl [Hg]; · iexact Hg
  isplitl [Ho]; · iexact Ho
  unfold post Φ₁ Pipeline.Dat.owesAt Pipeline.owesWithin owing
  rw [show (dats m ρ 0 c).owed t0_0.succ = 0 from rfl]
  iintro ⟨Hz, Hb, ⟨%W', HO⟩, Hx, Hg, Ho⟩
  isplitl [Hz Hb]
  · isplitl [Hz] <;> iassumption
  isplitl [HO]
  · iexists W'; isplitr; · (ipureintro; exact fun _ _ => Or.inl trivial)
    iexact HO
  isplitl [Hx]
  · iexists _; isplitr; · (ipureintro; rfl)
    iexact Hx
  isplitl [Hg]
  · iexists _; isplitr; · (ipureintro; rfl)
    iexact Hg
  iexists _; isplitr; · (ipureintro; rfl)
  iexact Ho

end Cert.ScatterProof

end
-- ==== Proof.Run.lean ====
/-
# The run

Every execution of the program on the four devices ends, with each device's result array at `res`, its arguments as
they were and every counter at zero.
-/
module

public import proofs.«01_k».proof.Proof.Device
public import Idealize.ShloMosaic.Lib.Pipeline.Value
public import Idealize.ShloMosaic.Lib.Pipeline.CollectiveSegs

@[expose] public section

noncomputable section

namespace Cert.ScatterProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

theorem ownSemFacts : Pipeline.OwnSemFacts cfg0.spec osem := by decide

theorem share_eq (c : Dev nD) (w : Fin cfg0.W) : (dats m ρ 0 c).share w = fullShare := by
  unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xs m) c)
      ⊢ |={Set.univ}=> iprop((∃ K, records (xs m) K ∗ ghost c) ∗ emp) := by
  unfold G' shared
  iintro ⟨-, #Hlev, Hcr, -, ⟨%K, ⟨#HI, #HR⟩, Hm⟩⟩
  ihave Hc := (creds (F := F) c) $$ Hcr
  ihave Hgh := (ghost_intro (F := F) c) $$ [Hm Hc]
  · isplitl [Hm] <;> iassumption
  imodintro
  isplitl
  · iexists K
    isplitr
    · unfold records
      isplitr; · iexact HI
      isplitr; · iexact HR
      iexact Hlev
    iexact Hgh
  iempintro

theorem phi_start (c : Dev nD) :
    iprop((∃ K, records (xs m) K ∗ ghost c) ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iapply (scratch_eq (F := F) c).1; iexact Hr

theorem phi_end (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  iintro ⟨Hz, Hb⟩
  ihave Hz := (sems_of_zeros (F := F) c) $$ Hz
  icases Hz with ⟨HU, HO⟩
  isplitl [HU]; · iexact HU
  isplitl [HO]; · iexact HO
  iapply (scratch_eq (F := F) c).2; iexact Hb

/-- The staging counters lie below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait c _ _ (by
      have h : lvOf (SemLoc.dma ((cfg0.win w).sem s)) = 0 := by fin_cases w <;> fin_cases s <;> decide
      rcases t with ⟨_ | _, ht⟩
      · exact (show Above (lvOf (SemLoc.dma ((cfg0.win w).sem s))) (O₀ c) by rw [h]; exact above_O₀ c)
      · exact above_zero _)

/-! ## The run -/

def final (c : Dev nD) (w : Fin cfg0.W) : Buf (Elt F) ((cfg0.win w).arr.view.loc (c : Thread nD τ)) := (dats m ρ 0 c).arrAt w cfg0.N

set_option maxRecDepth 8000 in
theorem run_arrays : θ_run defs (onTc (τ := τ) (main (F := F))) (s₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xs m)) (G' := G' (xs m)) (u₀ := u₀)
    (hu₀ := by
      unfold u₀
      iintro Hu
      ihave H := (ownU_pair _ _) $$ Hu
      icases H with ⟨HP, HX⟩
      imod (fund_all (xs m)) $$ HX with HG
      imodintro
      isplitl [HP] <;> iassumption)
    (hglob := glob (xs m))
    (hA := fun _ _ => rfl) (hpf := fun _ k => k.elim0)
    (X := fun c => iprop(∃ K, records (xs m) K ∗ ghost c)) (Y := fun c => unscopedSems0 c) (Z := fun _ => iprop(emp))
    (hX := start_intro m ρ) (hin := phi_start m ρ) (hout := phi_end m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold in the end -/

theorem final_x (c : Dev nD) : final m ρ c (0 : Fin 3) = m ((c : Thread nD τ).loc main_arg0) :=
  (dats (F := F) m ρ 0 c).arrAt_in (0 : Fin 3) rfl _
theorem final_g (c : Dev nD) : final m ρ c (1 : Fin 3) = m ((c : Thread nD τ).loc main_arg1) :=
  (dats (F := F) m ρ 0 c).arrAt_in (1 : Fin 3) rfl _

theorem final_o (c : Dev nD) : final m ρ c (2 : Fin 3) = res m c := by
  refine (dats m ρ 0 c).arrAt_eq_of_cover 2 (res m c) (fun t _ => ?_) (fun i => ⟨t0_0, rfl, ?_⟩)
  · rw [fin_N0 t]
    exact (read_o t0_0 (res m c)).symm
  · show i ∈ ((View.whole main_v1).slice (win0_2.rect t0_0)).set
    rw [View.set_slice_whole, Rect.mem_set_unit]
    intro a
    refine ⟨?_, ?_⟩
    · show 0 * _ ≤ _
      rw [Nat.zero_mul]; exact Nat.zero_le _
    · show _ < 0 * _ + S512x512.size a
      rw [Nat.zero_mul, Nat.zero_add]; exact (i a).isLt

/-- Every execution ends, the result as `res` says, the arguments unchanged, every counter at zero. -/
theorem run_main : θ_run defs (onTc (τ := τ) (main (F := F))) ⟨m, fun _ => 0, ρ⟩ (fun r =>
    (∀ c : Dev nD, r.2.mem ((c : Thread nD τ).loc main_v1) = res m c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h =>
    ⟨fun c => ⟨(h.1 c 2).trans (final_o m ρ c), (h.1 c 0).trans (final_x m ρ c), (h.1 c 1).trans (final_g m ρ c)⟩, h.2⟩)
    (run_arrays m ρ)

end Cert.ScatterProof

end
-- ==== Proof.Same.lean ====
/- The kernel read over the extended reals is the kernel as printed, at every type of float values: no operation was
   replaced, so the bodies, the tables of bodies and hence the runs of the two programs are the same. -/
module

public import proofs.«01_k».proof.Defs
public import proofs.«01_k».proof.Proof.Gen.Kernel
public import proofs.«01_k».proof.Proof.Gen.KernelIdeal

@[expose] public section

noncomputable section

namespace Cert.ScatterProof

open Idealize.ShloMosaic Idealize.ShloMosaic.TcCoe Idealize.SL.Sem

attribute [local instance] Cert.Kernel.Gen.facts Cert.KernelIdeal.Gen.facts

variable {F : FTy → Type} [FloatOps F]

/-- The two kernels' tables of bodies are one. -/
theorem table_same : Cert.KernelIdeal.defs₀ (F := F) = Cert.Kernel.defs₀ (F := F) := by
  refine congrArg Defs.onTc ?_
  funext ℓ a
  obtain rfl : ℓ = 0 := Subsingleton.elim (α := Fin 1) ℓ 0
  obtain ⟨t, s⟩ := a
  with_unfolding_all rfl

/-- So are their tables with the regions and pipelines of the calls. -/
theorem defs_same : Cert.KernelIdeal.defs (F := F) = Cert.Kernel.defs (F := F) :=
  congrArg (Pipeline.defs (Cert.Kernel.pcfgs (F := F))) table_same

/-- What every run of the one program ensures, every run of the other does. -/
theorem run_same {s : MemSt Cert.Kernel.nD Cert.Kernel.τ Cert.Kernel.sig (Elt F)} {Q}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg (fun d => θ_run d (onTc (τ := Cert.Kernel.τ) (Cert.Kernel.main (F := F))) s Q) (defs_same (F := F))).mp h

end Cert.ScatterProof

end
-- ==== Proof.Entries.lean ====
/-
# The entries of the blocks

Over the extended reals a change of format changes nothing, so every block that a device sends, receives or adds has
entries that are sums of entries of the devices' arguments. This module reads them off: the rows cut from an argument,
what arrives in each transfer, and the two halves of a device's rows of the whole sum.
-/
module

public import proofs.«01_k».proof.Proof.Values
public import Idealize.ShloMosaic.Lib.IdealHost
public import Idealize.ShloMosaic.Lib.Pipeline.Value
public import Idealize.ShloMosaic.Lib.ValueLayout
public import Idealize.ShloMosaic.Lib.ValueLayoutCasts

@[expose] public section

noncomputable section

namespace Cert.ScatterProof

open Cert.KernelIdeal Cert.KernelIdeal.Gen
open Idealize.ShloMosaic Idealize.ShloMosaic.ValueIdx

/-! ## Rows and columns -/

/-- Row `i` of the block of rows that device `c` ends with. -/
def row (c : Dev nD) (i : Fin 512) : Fin 2048 := ⟨512 * c.val + i.val, by
  have h : c.val < 4 := c.isLt
  omega⟩
/-- Column `j` of the left half, and of the right half, among all columns. -/
def lcol (j : Fin 256) : Fin 512 := ⟨j.val, by omega⟩
def rcol (j : Fin 256) : Fin 512 := ⟨256 + j.val, by omega⟩

/-- The partner that the number `r` stands for where rows are cut. -/
def part (r : Fin 3) (c : Dev nD) : Dev nD := match r with | 0 => q1 c | 1 => q2 c | 2 => q3 c

/-- Where the cuts begin: at the partner's rows, in the left or in the right half. -/
theorem off1_eq : ∀ (c : Dev nD) (r : Fin 3),
    k0_off1 c (BitVec.ofNat 32 (1 + r.val)) = ![0, 512 * (part r c).val, 0] := by decide +kernel
theorem off2_eq : ∀ (c : Dev nD) (r : Fin 3),
    k0_off2 c (BitVec.ofNat 32 (1 + r.val)) = ![0, 512 * (part r c).val, 256] := by decide +kernel
theorem off3_eq : ∀ c : Dev nD, k0_off3 c = ![0, 512 * c.val, 0] := by decide +kernel
theorem off4_eq : ∀ c : Dev nD, k0_off4 c = ![0, 512 * c.val, 256] := by decide +kernel

section
variable {F : FTy → Type} [FloatOps F]

/-- A cut of the argument that begins at the rows of device `d` and at column `b`, read at an entry. -/
theorem cut_apply (f : Vec F S1x2048x512 .bf16) {off : Fin 3 → ℕ} (d : Dev nD) (b : ℕ) (h : off = ![0, 512 * d.val, b])
    (inb : ∀ a, off a + S1x512x256.size a ≤ S1x2048x512.size a) (i : Fin 512) (j : Fin 256) (k : Fin 512)
    (hk : k.val = b + j.val) :
    xM.view.readAt (Elt F) (Rect.unit (s := S1x2048x512) off S1x512x256.size inb).toLoadRect f (ix3 (0 : Fin 1) i j)
      = f (ix3 (0 : Fin 1) (row d i) k) := by
  subst h
  refine congrArg f (funext fun a => Fin.ext ?_)
  match a with
  | ⟨0, _⟩ => rfl
  | ⟨1, _⟩ => show 512 * d.val + 1 * i.val = 512 * d.val + i.val; omega
  | ⟨2, _⟩ => show b + 1 * j.val = k.val; omega

/-- The four cuts, read at an entry. -/
theorem leftOf_apply (f : Vec F S1x2048x512 .bf16) (c : Dev nD) (r : Fin 3) (i : Fin 512) (j : Fin 256) :
    leftOf f c r (ix3 (0 : Fin 1) i j) = f (ix3 (0 : Fin 1) (row (part r c) i) (lcol j)) :=
  cut_apply f _ 0 (off1_eq c r) _ i j _ (Nat.zero_add _).symm
theorem rightOf_apply (f : Vec F S1x2048x512 .bf16) (c : Dev nD) (r : Fin 3) (i : Fin 512) (j : Fin 256) :
    rightOf f c r (ix3 (0 : Fin 1) i j) = f (ix3 (0 : Fin 1) (row (part r c) i) (rcol j)) :=
  cut_apply f _ 256 (off2_eq c r) _ i j _ rfl
theorem leftOwn_apply (f : Vec F S1x2048x512 .bf16) (c : Dev nD) (i : Fin 512) (j : Fin 256) :
    leftOwn f c (ix3 (0 : Fin 1) i j) = f (ix3 (0 : Fin 1) (row c i) (lcol j)) :=
  cut_apply f _ 0 (off3_eq c) _ i j _ (Nat.zero_add _).symm
theorem rightOwn_apply (f : Vec F S1x2048x512 .bf16) (c : Dev nD) (i : Fin 512) (j : Fin 256) :
    rightOwn f c (ix3 (0 : Fin 1) i j) = f (ix3 (0 : Fin 1) (row c i) (rcol j)) :=
  cut_apply f _ 256 (off4_eq c) _ i j _ rfl

/-- A block without its leading axis, read at an entry. -/
theorem flat_apply (v : Vec F S1x512x256 .bf16) (i : Fin 512) (j : Fin 256) :
    flat v (ix2 i j) = v (ix3 (0 : Fin 1) i j) := shapeCast_1ab_ab_apply v _ i j

/-- A block given a leading axis and deprived of it is itself. -/
theorem flat_lift (v : Vec F S512x256 .bf16) : flat (lift v) = v := shapeCast_shapeCast v _ _

/-- The blocks that travel first are cut as they are. -/
theorem pay1_flat (v : Vec F S1x512x256 .bf16) : flat (k0_pay1 v) = flat v := flat_lift _
theorem pay2_flat (v : Vec F S1x512x256 .bf16) : flat (k0_pay2 v) = flat v := flat_lift _
theorem pay3_flat (v : Vec F S1x512x256 .bf16) : flat (k0_pay3 v) = flat v := flat_lift _
theorem pay4_flat (v : Vec F S1x512x256 .bf16) : flat (k0_pay4 v) = flat v := flat_lift _
theorem pay65 (v : Vec F S1x512x256 .bf16) : k0_pay6 (k0_pay5 v) = flat v := shapeCast_self _ _
theorem pay7_eq (v : Vec F S1x512x256 .bf16) : k0_pay7 v = flat v := shapeCast_self _ _

/-- The two sums on the way, each of a block of the device's own and one received. -/
theorem pay8_eq (u v : Vec F S512x256 .bf16) : k0_pay8 u (lift v) = addf u v := by
  show shapeCast S512x256 (addf u (flat (lift v))) _ = _
  rw [shapeCast_self, flat_lift]
theorem pay9_eq (u v : Vec F S512x256 .bf16) : k0_pay9 u (lift v) = addf u v := by
  show shapeCast S512x256 (addf u (flat (lift v))) _ = _
  rw [shapeCast_self, flat_lift]

/-- The two sums of the device's own rows and what came straight from a partner. -/
theorem pay10_eq (u : Vec F S1x512x256 .bf16) (v : Vec F S512x256 .bf16) :
    k0_pay10 u (lift v) = addf (extf .f32 (flat u) bitsLt_bf16_f32) (extf .f32 v bitsLt_bf16_f32) := by
  show shapeCast S512x256 (addf (extf .f32 (flat u) bitsLt_bf16_f32) (extf .f32 (flat (lift v)) bitsLt_bf16_f32)) _ = _
  rw [shapeCast_self, flat_lift]
theorem pay13_eq (u : Vec F S1x512x256 .bf16) (v : Vec F S512x256 .bf16) :
    k0_pay13 (k0_pay11 u) (k0_pay12 (lift v)) = addf (extf .f32 (flat u) bitsLt_bf16_f32) (extf .f32 v bitsLt_bf16_f32) := by
  show shapeCast S512x256 (addf (extf .f32 (flat u) bitsLt_bf16_f32) (extf .f32 (flat (lift v)) bitsLt_bf16_f32)) _ = _
  rw [shapeCast_self, flat_lift]

end

/-! ## What arrives, and the rows of the sum -/

section
variable (x : Dev nD → Vec Ideal S1x2048x512 .bf16)

/-- The entry in row `i` of the rows of device `c`, column `k`, of the partial sum that device `d` holds. -/
def ent (d c : Dev nD) (i : Fin 512) (k : Fin 512) : EReal := x d (ix3 (0 : Fin 1) (row c i) k)

/-- The sum of the four devices' entries. -/
def total (c : Dev nD) (i : Fin 512) (k : Fin 512) : EReal := ∑ d : Fin 4, ent x d c i k

/-- Which rows arrive in the first transfers. -/
theorem part_tgt : ∀ c : Dev nD, part 1 (tgt 0 (tgt 4 c)) = c ∧ part 1 (tgt 1 (tgt 5 c)) = c ∧ part 0 (tgt 2 c) = c
    ∧ part 2 (tgt 3 c) = c ∧ part 2 (tgt 4 c) = c ∧ part 0 (tgt 5 c) = c := by decide

/-- From which devices the entries of the first transfers are. -/
theorem far_eq : ∀ c : Dev nD, tgt 0 (tgt 4 c) = q2 c ∧ tgt 1 (tgt 5 c) = q2 c := by decide

/-- The transfers that carry a block of the sender's own. -/
theorem val_two (c : Dev nD) : val x 2 c = flat (k0_pay3 (leftOf (x c) c 0)) := by
  have h : val x 2 c = val₁ x 2 c := by simp only [val]
  rw [h]; simp only [val₁]
theorem val_three (c : Dev nD) : val x 3 c = flat (k0_pay4 (rightOf (x c) c 2)) := by
  have h : val x 3 c = val₁ x 3 c := by simp only [val]
  rw [h]; simp only [val₁]

/-- What came straight from a partner: that partner's entries of the device's own rows. -/
theorem got2_apply (c : Dev nD) (i : Fin 512) (j : Fin 256) : got x 2 c (ix2 i j) = ent x (q1 c) c i (lcol j) := by
  have h : got x 2 c = flat (leftOf (x (tgt 2 c)) (tgt 2 c) 0) := by
    unfold got
    rw [val_two, pay3_flat]
  rw [h, flat_apply, leftOf_apply, (part_tgt c).2.2.1]; rfl
theorem got3_apply (c : Dev nD) (i : Fin 512) (j : Fin 256) : got x 3 c (ix2 i j) = ent x (q3 c) c i (rcol j) := by
  have h : got x 3 c = flat (rightOf (x (tgt 3 c)) (tgt 3 c) 2) := by
    unfold got
    rw [val_three, pay4_flat]
  rw [h, flat_apply, rightOf_apply, (part_tgt c).2.2.2.1]; rfl

/-- What came in two exchanges: the other two devices' entries of the device's own rows, summed. -/
theorem got4_apply (c : Dev nD) (i : Fin 512) (j : Fin 256) :
    got x 4 c (ix2 i j) = ent x (q3 c) c i (lcol j) + ent x (q2 c) c i (lcol j) := by
  have h : got x 4 c = addf (flat (leftOf (x (tgt 4 c)) (tgt 4 c) 2))
      (flat (leftOf (x (tgt 0 (tgt 4 c))) (tgt 0 (tgt 4 c)) 1)) := by
    show k0_pay8 (k0_pay6 (k0_pay5 _)) (lift (flat (k0_pay1 _))) = _
    rw [pay8_eq, pay65, pay1_flat]
  rw [h, addf_apply, flat_apply, flat_apply, leftOf_apply, leftOf_apply, (part_tgt c).1, (part_tgt c).2.2.2.2.1,
    (far_eq c).1]; rfl
theorem got5_apply (c : Dev nD) (i : Fin 512) (j : Fin 256) :
    got x 5 c (ix2 i j) = ent x (q1 c) c i (rcol j) + ent x (q2 c) c i (rcol j) := by
  have h : got x 5 c = addf (flat (rightOf (x (tgt 5 c)) (tgt 5 c) 0))
      (flat (rightOf (x (tgt 1 (tgt 5 c))) (tgt 1 (tgt 5 c)) 1)) := by
    show k0_pay9 (k0_pay7 _) (lift (flat (k0_pay2 _))) = _
    rw [pay9_eq, pay7_eq, pay2_flat]
  rw [h, addf_apply, flat_apply, flat_apply, rightOf_apply, rightOf_apply, (part_tgt c).2.1, (part_tgt c).2.2.2.2.2,
    (far_eq c).2]; rfl

/-- The device and its three partners are the four devices, in whatever order the sum is taken. -/
theorem sum_partners (e : Dev nD → EReal) (c : Dev nD) : e c + e (q1 c) + (e (q3 c) + e (q2 c)) = ∑ d : Fin 4, e d := by
  rw [Fin.sum_univ_four]
  fin_cases c
  · show e 0 + e 1 + (e 3 + e 2) = e 0 + e 1 + e 2 + e 3; abel
  · show e 1 + e 0 + (e 2 + e 3) = e 0 + e 1 + e 2 + e 3; abel
  · show e 2 + e 3 + (e 1 + e 0) = e 0 + e 1 + e 2 + e 3; abel
  · show e 3 + e 2 + (e 0 + e 1) = e 0 + e 1 + e 2 + e 3; abel

/-- The left half of the device's rows of the whole sum. -/
theorem sumL_apply (c : Dev nD) (i : Fin 512) (j : Fin 256) :
    k0_pay14 (ownL x c) (got x 4 c) (ix2 i j) = total x c i (lcol j) := by
  have h : k0_pay14 (ownL x c) (got x 4 c) (ix2 i j) = ownL x c (ix2 i j) + got x 4 c (ix2 i j) := rfl
  have ho : ownL x c (ix2 i j) = ent x c c i (lcol j) + ent x (q1 c) c i (lcol j) := by
    unfold ownL
    rw [pay10_eq, addf_apply, extf_apply, extf_apply, flat_apply, leftOwn_apply, got2_apply]; rfl
  rw [h, ho, got4_apply]
  exact sum_partners (fun d => ent x d c i (lcol j)) c

/-- The right half. -/
theorem sumR_apply (c : Dev nD) (i : Fin 512) (j : Fin 256) :
    k0_pay15 (ownR x c) (got x 5 c) (ix2 i j) = total x c i (rcol j) := by
  have h : k0_pay15 (ownR x c) (got x 5 c) (ix2 i j) = ownR x c (ix2 i j) + got x 5 c (ix2 i j) := rfl
  have ho : ownR x c (ix2 i j) = ent x c c i (rcol j) + ent x (q3 c) c i (rcol j) := by
    unfold ownR
    rw [pay13_eq, addf_apply, extf_apply, extf_apply, flat_apply, rightOwn_apply, got3_apply]; rfl
  have hs := sum_partners (fun d => ent x d c i (rcol j)) c
  rw [h, ho, got5_apply]
  unfold total
  rw [← hs]
  show _ = ent x c c i (rcol j) + ent x (q1 c) c i (rcol j) + (ent x (q3 c) c i (rcol j) + ent x (q2 c) c i (rcol j))
  abel

end

end Cert.ScatterProof

end
-- ==== Proof.Rms.lean ====
/-
# The scaling of a row

A row is divided by the square root of the mean of its squares and a small positive constant. The kernel multiplies by
the reciprocal square root, the reference divides by the square root: over the extended reals these are the same for
every row, finite or not, since the mean of squares and a positive constant is a positive real or infinite.
-/
module

public import Idealize.ShloMosaic.Lib.IdealHost

@[expose] public section

noncomputable section

namespace Cert.ScatterProof

open Idealize.ShloMosaic

/-- The mean of a row's squares and the constant, as both programs write it. -/
def meanSq (y : Fin 512 → EReal) : EReal :=
  Ideal.div (∑ k : Fin 512, y k * y k) (Ideal.ofBits .f32 0x44000000#32) + Ideal.ofBits .f32 0x358637BD#32

/-- The divisor is the number 512. -/
theorem ofBits_len : Ideal.ofBits .f32 0x44000000#32 = ((512 : ℝ) : EReal) := by
  simp [Ideal.ofBits, Ideal.ieee, -EReal.coe_mul]; norm_num

/-- The constant is a positive real. -/
theorem ofBits_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- A square is not negative. -/
theorem sq_nonneg' (a : EReal) : 0 ≤ a * a := by
  induction a with
  | bot => rw [EReal.bot_mul_bot]; exact le_top
  | coe r => rw [← EReal.coe_mul]; exact EReal.coe_nonneg.mpr (mul_self_nonneg r)
  | top => rw [EReal.top_mul_top]; exact le_top

/-- The mean of squares and the constant is infinite or a positive real. -/
theorem meanSq_cases (y : Fin 512 → EReal) : meanSq y = ⊤ ∨ ∃ r : ℝ, 0 < r ∧ meanSq y = (r : EReal) := by
  obtain ⟨e, he, h⟩ := ofBits_eps
  have hs : (0 : EReal) ≤ ∑ k : Fin 512, y k * y k := Finset.sum_nonneg fun k _ => sq_nonneg' (y k)
  unfold meanSq
  rw [h, ofBits_len, Ideal.div_coe (by norm_num)]
  generalize (∑ k : Fin 512, y k * y k) = s at hs
  have hm : (0 : EReal) ≤ s * ((1 / 512 : ℝ) : EReal) := mul_nonneg hs (EReal.coe_nonneg.mpr (by norm_num))
  generalize s * ((1 / 512 : ℝ) : EReal) = m at hm
  induction m with
  | bot => exact absurd hm (by simp)
  | coe r => exact Or.inr ⟨r + e, by have := EReal.coe_nonneg.mp hm; linarith, (EReal.coe_add r e).symm⟩
  | top => exact Or.inl (EReal.top_add_coe e)

/-- Dividing by the square root is multiplying by the reciprocal square root. -/
theorem div_sqrt (a v : EReal) (hv : v = ⊤ ∨ ∃ r : ℝ, 0 < r ∧ v = (r : EReal)) :
    Ideal.div a (Ideal.sqrt v) = a * Ideal.rsqrt v := by
  rcases hv with rfl | ⟨r, hr, rfl⟩
  · rw [Ideal.sqrt_top, Ideal.rsqrt_top]
    unfold Ideal.div
    rw [if_neg (by simp), EReal.inv_top]
  · have hp : 0 < Real.sqrt r := Real.sqrt_pos.mpr hr
    rw [Ideal.sqrt_coe, Ideal.rsqrt_coe, if_neg (not_lt.mpr hr.le), if_neg (not_lt.mpr hr.le), if_neg hr.ne',
      Ideal.div_coe hp.ne', one_div]

/-- The reference's entry is the kernel's, for every row `y` and every scale. -/
theorem rms_eq (y : Fin 512 → EReal) (k : Fin 512) (g : EReal) :
    Ideal.div (y k) (Ideal.sqrt (meanSq y)) * g = y k * Ideal.rsqrt (meanSq y) * g := by
  rw [div_sqrt _ _ (meanSq_cases y)]

/-- A sum over all columns is the sum over the left half and the sum over the right half. -/
theorem sum_halves (f : Fin 512 → EReal) :
    (∑ j : Fin 256, f ⟨j.val, by omega⟩) + (∑ j : Fin 256, f ⟨256 + j.val, by omega⟩) = ∑ k : Fin 512, f k :=
  (Fin.sum_univ_add (a := 256) (b := 256) f).symm

end Cert.ScatterProof

end
-- ==== Proof.Result.lean ====
/-
# The result of a device, entry by entry

Device `c`'s result holds, in row `i` and column `k`, the entry of the sum of the four partial sums, times the
reciprocal square root of the row's mean square, times the scale of the column.
-/
module

public import proofs.«01_k».proof.Proof.Entries
public import proofs.«01_k».proof.Proof.Rms
public import Idealize.ShloMosaic.PureOps.Ideal.Laws

@[expose] public section

noncomputable section

namespace Cert.ScatterProof

open Cert.KernelIdeal Cert.KernelIdeal.Gen
open Idealize.ShloMosaic Idealize.ShloMosaic.ValueIdx

/-- A row's sum over the columns of a block. -/
theorem rowSum_apply (v : FVec Ideal S512x256 .f32) (i : Fin 512) :
    multiReduction (F := Ideal) .add [1] S512 v 0x00000000#32 reduces_S512x256_S512 (.inl rfl) rfl (ix1 i)
      = ∑ j : Fin 256, v (ix2 i j) := by
  refine (Ideal.multiReduction_add_single v _ reduces_S512x256_S512 (.inl rfl) rfl (ix1 i)).trans ?_
  refine Finset.sum_congr rfl fun j _ => congrArg v (funext fun a => Fin.ext ?_)
  match a with
  | ⟨0, _⟩ => rfl
  | ⟨1, _⟩ => rfl

/-- A column of one entry per row, spread over the columns of a block. -/
theorem spread_apply {α : Type} (v : S512x1.Idx → α) (i : Fin 512) (j : Fin 256) :
    broadcastTo S512x256 v broadcasts_S512x1_S512x256 (ix2 i j) = v (ix2 i (0 : Fin 1)) := by
  refine broadcastTo_apply v _ _ _ fun a => ?_
  match a with
  | ⟨0, _⟩ => rfl
  | ⟨1, _⟩ => rfl

/-- Half of the scale, spread over the rows of a block. -/
theorem scale_apply (v : Vec Ideal S256 .bf16) (i : Fin 512) (j : Fin 256) :
    broadcastTo S512x256 (shapeCast S1x256 (extf (F := Ideal) .f32 (shapeCast S256 v shapeCasts_S256_S256) bitsLt_bf16_f32)
      shapeCasts_S256_S1x256) broadcasts_S1x256_S512x256 (ix2 i j) = v (ix1 j) := by
  rw [broadcastTo_1b_ab_apply, shapeCast_a_1a_apply, extf_apply, shapeCast_self]

/-- The half of the scale that is read. -/
theorem scaleL_apply (g : Vec Ideal S512 .bf16) (j : Fin 256) :
    gM.view.readAt (Elt Ideal) (Rect.unit (s := S512) ![0] S256.size inb_S512_S256_0).toLoadRect g (ix1 j) = g (ix1 (lcol j)) := by
  refine congrArg g (funext fun a => Fin.ext ?_)
  match a with
  | ⟨0, _⟩ => show 0 + 1 * j.val = j.val; omega
theorem scaleR_apply (g : Vec Ideal S512 .bf16) (j : Fin 256) :
    gM.view.readAt (Elt Ideal) (Rect.unit (s := S512) ![256] S256.size inb_S512_S256_256).toLoadRect g (ix1 j) = g (ix1 (rcol j)) := by
  refine congrArg g (funext fun a => Fin.ext ?_)
  match a with
  | ⟨0, _⟩ => show 256 + 1 * j.val = 256 + j.val; omega

section
variable (x : Dev nD → Vec Ideal S1x2048x512 .bf16)

/-- The factor of a row. -/
theorem factor_apply (c : Dev nD) (i : Fin 512) :
    k0_pay16 (ownL x c) (got x 4 c) (ownR x c) (got x 5 c) (ix2 i (0 : Fin 1)) = Ideal.rsqrt (meanSq (total x c i)) := by
  have hl : shapeCast S512x1 (multiReduction (F := Ideal) .add [1] S512
        (mulf (k0_pay14 (ownL x c) (got x 4 c)) (k0_pay14 (ownL x c) (got x 4 c)))
        0x00000000#32 reduces_S512x256_S512 (.inl rfl) rfl) shapeCasts_S512_S512x1 (ix2 i (0 : Fin 1))
      = ∑ j : Fin 256, total x c i (lcol j) * total x c i (lcol j) := by
    rw [shapeCast_a_a1_apply, rowSum_apply]
    exact Finset.sum_congr rfl fun j _ => by rw [mulf_apply, sumL_apply]
  have hr : shapeCast S512x1 (multiReduction (F := Ideal) .add [1] S512
        (mulf (k0_pay15 (ownR x c) (got x 5 c)) (k0_pay15 (ownR x c) (got x 5 c)))
        0x00000000#32 reduces_S512x256_S512 (.inl rfl) rfl) shapeCasts_S512_S512x1 (ix2 i (0 : Fin 1))
      = ∑ j : Fin 256, total x c i (rcol j) * total x c i (rcol j) := by
    rw [shapeCast_a_a1_apply, rowSum_apply]
    exact Finset.sum_congr rfl fun j _ => by rw [mulf_apply, sumR_apply]
  have hs := sum_halves fun k => total x c i k * total x c i k
  show Ideal.rsqrt (Ideal.div (_ + _) (Ideal.ofBits .f32 0x44000000#32) + Ideal.ofBits .f32 0x358637BD#32) = _
  unfold meanSq
  rw [← hs]
  exact congrArg (fun s => Ideal.rsqrt (Ideal.div s (Ideal.ofBits .f32 0x44000000#32) + Ideal.ofBits .f32 0x358637BD#32))
    (congrArg₂ (· + ·) hl hr)

/-- The left and the right half of the result. -/
theorem outL_apply (g : Vec Ideal S512 .bf16) (c : Dev nD) (i : Fin 512) (j : Fin 256) :
    outL x g c (ix2 i j) = total x c i (lcol j) * Ideal.rsqrt (meanSq (total x c i)) * g (ix1 (lcol j)) := by
  unfold outL k0_pay18 k0_pay17
  rw [mulf_apply, mulf_apply, scale_apply, spread_apply, sumL_apply, factor_apply, scaleL_apply]
theorem outR_apply (g : Vec Ideal S512 .bf16) (c : Dev nD) (i : Fin 512) (j : Fin 256) :
    outR x g c (ix2 i j) = total x c i (rcol j) * Ideal.rsqrt (meanSq (total x c i)) * g (ix1 (rcol j)) := by
  unfold outR k0_pay19
  rw [mulf_apply, mulf_apply, scale_apply, spread_apply, sumR_apply, factor_apply, scaleR_apply]

/-- The result. -/
theorem outAt_apply (g : Vec Ideal S512 .bf16) (c : Dev nD) (i k : Fin 512) :
    outAt x g c (ix2 i k) = total x c i k * Ideal.rsqrt (meanSq (total x c i)) * g (ix1 k) := by
  by_cases h : k.val < 256
  · have e : outAt x g c (ix2 i k) = outL x g c (ix2 i ⟨k.val, h⟩) := by
      unfold outAt halves
      rw [dif_pos h]
      exact congrArg (outL x g c) (funext fun a => by match a with | ⟨0, _⟩ => rfl | ⟨1, _⟩ => rfl)
    have hk : lcol ⟨k.val, h⟩ = k := Fin.ext rfl
    rw [e, outL_apply, hk]
  · have e : outAt x g c (ix2 i k) = outR x g c (ix2 i ⟨k.val - 256, by omega⟩) := by
      unfold outAt halves
      rw [dif_neg h]
      exact congrArg (outR x g c) (funext fun a => by match a with | ⟨0, _⟩ => rfl | ⟨1, _⟩ => rfl)
    have hk : rcol ⟨k.val - 256, by omega⟩ = k := Fin.ext (show 256 + (k.val - 256) = k.val by omega)
    rw [e, outR_apply, hk]

end

end Cert.ScatterProof

end
-- ==== Proof.Reference.lean ====
/-
# What the reference computes, entry by entry

The reference sums the four partial sums, divides every row by the square root of its mean square, and multiplies by
the scale of the column.
-/
module

public import proofs.«01_k».proof.Proof.Rms
public import proofs.«01_k».proof.Proof.Gen.ReferenceIdeal.Run
public import Idealize.ShloMosaic.Lib.Pipeline.Value
public import Idealize.ShloMosaic.PureOps.Ideal.Laws

@[expose] public section

noncomputable section

namespace Cert.ScatterProof

open Cert.ReferenceIdeal Cert.ReferenceIdeal.Gen
open Idealize.ShloMosaic Idealize.ShloMosaic.ValueIdx

section
variable (P : FVec Ideal S4x2048x512 .bf16) (g : FVec Ideal S512 .bf16)

/-- The sum of the four partial sums, as the reference takes it. -/
def refSum : FVec Ideal S2048x512 .f32 :=
  Host.reduceAdd (extf .f32 P bitsLt_bf16_f32) (constant S_ .f32 0x00000000#32) reducesTo_S4x2048x512_S2048x512_d0 h_S_
/-- The sums of the squares of its rows. -/
def refSq : FVec Ideal S2048 .f32 :=
  Host.reduceAdd (mulf (refSum P) (refSum P)) (constant S_ .f32 0x00000000#32) reducesTo_S2048x512_S2048_d1 h_S_
/-- The square roots it divides by. -/
def refRoot : FVec Ideal S2048x1 .f32 :=
  Host.sqrt (addf (Host.divf (broadcastInDim S2048x1 ![0] bcast_S2048_S2048x1_0 (refSq P))
    (broadcastInDim S2048x1 ![] bcast_S_S2048x1 (constant S_ .f32 0x44000000#32)))
    (broadcastInDim S2048x1 ![] bcast_S_S2048x1 (constant S_ .f32 0x358637BD#32)))
/-- Its result. -/
def refOut : FVec Ideal S2048x512 .f32 :=
  mulf (Host.divf (refSum P) (broadcastInDim S2048x512 ![0, 1] bcast_S2048x1_S2048x512_0_1 (refRoot P)))
    (broadcastInDim S2048x512 ![0, 1] bcast_S1x512_S2048x512_0_1
      (broadcastInDim S1x512 ![1] bcast_S512_S1x512_1 (extf .f32 g bitsLt_bf16_f32)))

/-- The sum of the four entries in row `r` and column `k`. -/
def refTotal (r : Fin 2048) (k : Fin 512) : EReal := ∑ d : Fin 4, P (ix3 d r k)

theorem refSum_apply (r : Fin 2048) (k : Fin 512) : refSum P (ix2 r k) = refTotal P r k := by
  unfold refSum refTotal
  rw [hostReduceAdd_apply, Ideal.hostReduceAdd_single _ (by decide)]
  have h0 : (constant (F := Ideal) S_ .f32 0x00000000#32) (Shape.Idx.first h_S_) = 0 := Ideal.ofBits_zero_f32
  rw [h0, zero_add]
  refine Finset.sum_congr rfl fun d _ => ?_
  rw [extf_apply]
  refine congrArg P (funext fun a => Fin.ext ?_)
  match a with
  | ⟨0, _⟩ => rfl
  | ⟨1, _⟩ => rfl
  | ⟨2, _⟩ => rfl

theorem refSq_apply (r : Fin 2048) : refSq P (ix1 r) = ∑ k : Fin 512, refTotal P r k * refTotal P r k := by
  unfold refSq
  rw [hostReduceAdd_apply, Ideal.hostReduceAdd_single _ (by decide)]
  have h0 : (constant (F := Ideal) S_ .f32 0x00000000#32) (Shape.Idx.first h_S_) = 0 := Ideal.ofBits_zero_f32
  rw [h0, zero_add]
  refine Finset.sum_congr rfl fun k _ => ?_
  have e : ∀ h : Shape.Reduces S2048x512 [1] S2048, h.lift (ix1 r) k = ix2 r k := fun h => funext fun a => Fin.ext (by
    match a with
    | ⟨0, _⟩ => rfl
    | ⟨1, _⟩ => rfl)
  refine (congrArg (fun j => refSum P j * refSum P j) (e _)).trans ?_
  exact congrArg (fun s => s * s) (refSum_apply P r k)

theorem refRoot_apply (r : Fin 2048) : refRoot P (ix2 r (0 : Fin 1)) = Ideal.sqrt (meanSq (refTotal P r)) := by
  have h : broadcastInDim S2048x1 ![0] bcast_S2048_S2048x1_0 (refSq P) (ix2 r (0 : Fin 1)) = refSq P (ix1 r) :=
    broadcastInDim_apply _ _ _ _ _ fun a => by match a with | ⟨0, _⟩ => rfl
  show Ideal.sqrt (Ideal.div (broadcastInDim S2048x1 ![0] bcast_S2048_S2048x1_0 (refSq P) (ix2 r (0 : Fin 1)))
    (broadcastInDim S2048x1 ![] bcast_S_S2048x1 (constant (F := Ideal) S_ .f32 0x44000000#32) (ix2 r (0 : Fin 1)))
    + broadcastInDim S2048x1 ![] bcast_S_S2048x1 (constant (F := Ideal) S_ .f32 0x358637BD#32) (ix2 r (0 : Fin 1))) = _
  rw [h, refSq_apply]; rfl

/-- The reference's result, in row `r` and column `k`. -/
theorem refOut_apply (r : Fin 2048) (k : Fin 512) :
    refOut P g (ix2 r k) = Ideal.div (refTotal P r k) (Ideal.sqrt (meanSq (refTotal P r))) * g (ix1 k) := by
  have h : broadcastInDim S2048x512 ![0, 1] bcast_S2048x1_S2048x512_0_1 (refRoot P) (ix2 r k) = refRoot P (ix2 r (0 : Fin 1)) :=
    broadcastInDim_apply _ _ _ _ _ fun a => by
      match a with
      | ⟨0, _⟩ => rfl
      | ⟨1, _⟩ => rfl
  have h1 : broadcastInDim S2048x512 ![0, 1] bcast_S1x512_S2048x512_0_1
      (broadcastInDim S1x512 ![1] bcast_S512_S1x512_1 (extf (F := Ideal) .f32 g bitsLt_bf16_f32)) (ix2 r k)
      = broadcastInDim S1x512 ![1] bcast_S512_S1x512_1 (extf (F := Ideal) .f32 g bitsLt_bf16_f32) (ix2 (0 : Fin 1) k) :=
    broadcastInDim_apply _ _ _ _ _ fun a => by
      match a with
      | ⟨0, _⟩ => rfl
      | ⟨1, _⟩ => rfl
  have h2 : broadcastInDim S1x512 ![1] bcast_S512_S1x512_1 (extf (F := Ideal) .f32 g bitsLt_bf16_f32) (ix2 (0 : Fin 1) k)
      = extf (F := Ideal) .f32 g bitsLt_bf16_f32 (ix1 k) :=
    broadcastInDim_apply _ _ _ _ _ fun a => by match a with | ⟨0, _⟩ => rfl
  unfold refOut
  rw [mulf_apply, hostDivf_apply, h, h1, h2, extf_apply, refSum_apply, refRoot_apply]

end

end Cert.ScatterProof

end
-- ==== Proof.Equation.lean ====
/-
# The result is the reference's

Device `c` holds row `c` of the four partial sums. Its result is then block `c` of rows of what the reference makes of
all four.
-/
module

public import proofs.«01_k».proof.Proof.Result
public import proofs.«01_k».proof.Proof.Reference
public import Idealize.ShloMosaic.Lib.Layout

@[expose] public section

noncomputable section

namespace Cert.ScatterProof

open Idealize.ShloMosaic Idealize.ShloMosaic.ValueIdx

/-- A device's result, when the devices hold the rows of `P` and all of them `g`, is its block of the reference's. -/
theorem out_eq (P : FVec Ideal Cert.ReferenceIdeal.S4x2048x512 .bf16) (g : FVec Ideal Cert.ReferenceIdeal.S512 .bf16)
    (c : Dev Cert.KernelIdeal.nD) :
    outAt (F := Ideal) (fun d => Layout.block ⟨3, ![1, 2048, 512]⟩ ⟨3, ![4, 2048, 512]⟩ 0 4 d P) g c
      = Layout.block ⟨2, ![512, 512]⟩ ⟨2, ![2048, 512]⟩ 0 4 c (refOut P g) := by
  funext j
  obtain ⟨i, k, rfl⟩ : ∃ (i : Fin 512) (k : Fin 512), j = ix2 i k := ⟨j 0, j 1, eq_ix2 j⟩
  have hb : (Layout.block ⟨2, ![512, 512]⟩ ⟨2, ![2048, 512]⟩ 0 4 c (refOut P g)) (ix2 i k) = refOut P g (ix2 (row c i) k) := by
    refine congrArg (refOut P g) (funext fun a => Fin.ext ?_)
    match a with
    | ⟨0, _⟩ => show c.val * 512 + i.val = 512 * c.val + i.val; omega
    | ⟨1, _⟩ => rfl
  have ht : total (fun d => Layout.block ⟨3, ![1, 2048, 512]⟩ ⟨3, ![4, 2048, 512]⟩ 0 4 d P) c i = refTotal P (row c i) := by
    funext k
    refine Finset.sum_congr rfl fun d _ => congrArg P (funext fun a => Fin.ext ?_)
    match a with
    | ⟨0, _⟩ => show d.val * 1 + 0 = d.val; omega
    | ⟨1, _⟩ => rfl
    | ⟨2, _⟩ => rfl
  rw [hb, outAt_apply, refOut_apply, ht]
  exact (rms_eq (refTotal P (row c i)) k (g (ix1 k))).symm

end Cert.ScatterProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Same
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel, as printed, terminates with its arguments unchanged and every counter at zero. -/
theorem frame_kernel : Cert.quiescent_Kernel (hKernel := Cert.Kernel.Gen.facts) := fun m ρ _ => by
  have h := Cert.ScatterProof.run_main (F := Bits) m ρ
  have h' := (θ_run Cert.KernelIdeal.defs _ _).mono (fun r (hr : _) =>
    (⟨fun c => (hr.1 c).2, hr.2⟩ : (∀ c : Dev Cert.KernelIdeal.nD,
        r.2.mem ((c.tc : Thread _ _).loc Cert.KernelIdeal.main_arg0) = m ((c.tc : Thread _ _).loc Cert.KernelIdeal.main_arg0)
        ∧ r.2.mem ((c.tc : Thread _ _).loc Cert.KernelIdeal.main_arg1) = m ((c.tc : Thread _ _).loc Cert.KernelIdeal.main_arg1))
      ∧ r.2.sem = fun _ => 0)) h
  exact Cert.ScatterProof.run_same h'

/-- So does the kernel over the extended reals. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩)
    (Cert.ScatterProof.run_main (F := Ideal) m ρ)

/-- So does the reference, which has no counters. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's results are the devices' blocks of the reference's result. -/
theorem same_values : Cert.algebraic_KernelIdeal_ReferenceIdeal (hKernelIdeal := Cert.KernelIdeal.Gen.facts)
    (hReferenceIdeal := Cert.ReferenceIdeal.Gen.facts) := fun m ρ m' ρ' _ ha => by
  refine ⟨Cert.ScatterProof.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨(h.1 c).1.trans ?_, (h.1 c).2⟩)
      (Cert.ScatterProof.run_main (F := Ideal) m ρ),
    (θ_run Cert.ReferenceIdeal.defs _ _).mono (fun _ h => h 0) (Cert.ReferenceIdeal.Value.run (F := Ideal) m' ρ')⟩
  have hx := funext fun d => (ha d).1
  have hg := (ha c).2
  refine Eq.trans ?_ (Cert.ScatterProof.out_eq _ _ c)
  exact congrArg₂ (fun x g => Cert.ScatterProof.outAt (F := Ideal) x g c) hx hg

theorem claim : Cert.Claim := ⟨Cert.Kernel.Gen.facts, Cert.KernelIdeal.Gen.facts, Cert.ReferenceIdeal.Gen.facts,
  frame_kernel, frame_ideal, frame_reference, trivial, same_values⟩

end Cert.Proof

end
